-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![8, 512, 8, 64]⟩ ⟨4, ![8, 2048, 8, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![8, 512, 8, 64]⟩ ⟨4, ![8, 2048, 8, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x512x8x64 : S_.BroadcastsInDim S8x512x8x64 (![] : Fin 0 → Fin S8x512x8x64.rank)
  reducesTo_S8x512x8x64_S_d0_1_2_3 : S8x512x8x64.ReducesTo [0, 1, 2, 3] S_

variable [Facts]

def fn {F : FTy → Type} [FloatOps F] (main_arg0 : FVec F S8x1x8x64 .bf16) (main_arg1 : FVec F S8x512x8x64 .bf16) (main_arg2 : FVec F S8x512x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x512x8x64 .bf16 := Host.absf main_arg1
  let main_cst_0 : FVec F S_ .bf16 := constant S_ .bf16 0x7F80#16
  let main_v5 : FVec F S8x512x8x64 .bf16 := broadcastInDim S8x512x8x64 ![] bcast_S_S8x512x8x64 main_cst_0
  let main_v6 : IVec S8x512x8x64 1 := cmpf .olt main_v4 main_v5
  let main_c_1 : IVec S_ 1 := constantI S_ 1 1#1
  let main_v7 : IVec S_ 1 := (fun x v => Host.reduce IntOp.andi x v reducesTo_S8x512x8x64_S_d0_1_2_3 h_S_) main_v6 main_c_1
  let main_v8 : IVec S_ 1 := andi main_v3 main_v7
  main_v8
-- ==== Pre_finite_scores_ReferenceIdeal.lean ====
abbrev S8x1x8x64 : Shape := ⟨4, ![8, 1, 8, 64]⟩
abbrev S8x2048x8x64 : Shape := ⟨4, ![8, 2048, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_

variable [Facts]

def fn {F : FTy → Type} [FloatOps F] (main_arg0 : FVec F S8x1x8x64 .bf16) (main_arg1 : FVec F S8x2048x8x64 .bf16) (main_arg2 : FVec F S8x2048x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x2048x8x64 .bf16 := Host.absf main_arg1
  let main_cst_0 : FVec F S_ .bf16 := constant S_ .bf16 0x7F80#16
  let main_v5 : FVec F S8x2048x8x64 .bf16 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  main_v8
-- ==== Kernel.lean ====
abbrev S8x1x8x64 : Shape := ⟨4, ![8, 1, 8, 64]⟩
abbrev S8x512x8x64 : Shape := ⟨4, ![8, 512, 8, 64]⟩
abbrev S8x8x64 : Shape := ⟨3, ![8, 8, 64]⟩
abbrev S8x8 : Shape := ⟨2, ![8, 8]⟩
abbrev S_ : Shape := ⟨0, ![]⟩
abbrev S8x8x1x64 : Shape := ⟨4, ![8, 8, 1, 64]⟩
abbrev S1x8x8x1 : Shape := ⟨4, ![1, 8, 8, 1]⟩
abbrev S8x8x8x64 : Shape := ⟨4, ![8, 8, 8, 64]⟩
abbrev S8x8x512 : Shape := ⟨3, ![8, 8, 512]⟩
abbrev S8x512x512 : Shape := ⟨3, ![8, 512, 512]⟩
abbrev S64x64 : Shape := ⟨2, ![64, 64]⟩
abbrev S64x128 : Shape := ⟨2, ![64, 128]⟩
abbrev S3x64x128 : Shape := ⟨3, ![3, 64, 128]⟩
abbrev S3 : Shape := ⟨1, ![3]⟩
abbrev S1x8x512 : Shape := ⟨3, ![1, 8, 512]⟩
abbrev S8x512 : Shape := ⟨2, ![8, 512]⟩
abbrev S1x512x512 : Shape := ⟨3, ![1, 512, 512]⟩
abbrev S512x512 : Shape := ⟨2, ![512, 512]⟩
abbrev S8 : Shape := ⟨1, ![8]⟩
abbrev S8x1 : Shape := ⟨2, ![8, 1]⟩
abbrev S8x64 : Shape := ⟨2, ![8, 64]⟩
abbrev S1 : Shape := ⟨1, ![1]⟩
abbrev S1x64x128 : Shape := ⟨3, ![1, 64, 128]⟩
abbrev S64x1 : Shape := ⟨2, ![64, 1]⟩
abbrev S1x64x1 : Shape := ⟨3, ![1, 64, 1]⟩
abbrev S1x64x64 : Shape := ⟨3, ![1, 64, 64]⟩

abbrev nBuf : Space → Nat
  | .hbm => 21
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S8x8x64, .bf16⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .bf16⟩
  | .hbm, ⟨11, _⟩ => ⟨S8x8x1x64, .bf16⟩
  | .hbm, ⟨12, _⟩ => ⟨S1x8x8x1, .bf16⟩
  | .hbm, ⟨13, _⟩ => ⟨S8x8x8x64, .bf16⟩
  | .hbm, ⟨14, _⟩ => ⟨S8x8x8x64, .bf16⟩
  | .hbm, ⟨15, _⟩ => ⟨S8x8x8x64, .bf16⟩
  | .hbm, ⟨16, _⟩ => ⟨S8x8x512, .bf16⟩
  | .hbm, ⟨17, _⟩ => ⟨S8x512x512, .bf16⟩
  | .hbm, ⟨18, _⟩ => ⟨S8x512x512, .bf16⟩
  | .hbm, ⟨19, _⟩ => ⟨S64x64, .f32⟩
  | .hbm, ⟨20, _⟩ => ⟨S8x1x8x64, .f32⟩
  | .local _ .vmem, ⟨0, _⟩ => ⟨S8x8x512, .bf16⟩
  | .local _ .vmem, ⟨1, _⟩ => ⟨S8x512x512, .bf16⟩
  | .local _ .vmem, ⟨2, _⟩ => ⟨S8x512x512, .bf16⟩
  | .local _ .vmem, ⟨3, _⟩ => ⟨S64x64, .f32⟩
  | .local _ .vmem, ⟨4, _⟩ => ⟨S64x128, .f32⟩
  | .local _ .vmem, ⟨5, _⟩ => ⟨S3x64x128, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_233 : BitVec 32 := 1#32
  let v603 : BitVec 32 := Scalar.addi v2 c1_i32_233
  let c4_i32_234 : BitVec 32 := 4#32
  let c0_i32_235 : BitVec 32 := 0#32
  let v604 : BitVec 1 := Scalar.cmpi .eq c4_i32_234 c0_i32_235
  let c1_i32_236 : BitVec 32 := 1#32
  let v605 : BitVec 32 := Scalar.select v604 c1_i32_236 c4_i32_234
  let v606 : BitVec 32 := Scalar.remsi v603 v605
  let c0_i32_238 : BitVec 32 := 0#32
  let v608 : BitVec 1 := Scalar.cmpi .slt v606 c0_i32_238
  let c0_i32_239 : BitVec 32 := 0#32
  let v609 : BitVec 1 := Scalar.cmpi .slt v605 c0_i32_239
  let v610 : BitVec 1 := Scalar.xori v608 v609
  let c0_i32_237 : BitVec 32 := 0#32
  let v607 : BitVec 1 := Scalar.cmpi .ne v606 c0_i32_237
  let v611 : BitVec 1 := Scalar.andi v610 v607
  let v612 : BitVec 32 := Scalar.addi v606 v605
  let v613 : BitVec 32 := Scalar.select v611 v612 v606
  let c1_i32_243 : BitVec 32 := 1#32
  let v614 : BitVec 32 := Scalar.muli v613 c1_i32_243
  let v615 : BitVec 32 := Scalar.addi c0_i32_244 v614
  v615.toNat
def k0_dev5 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_247 : BitVec 32 := 2#32
  let v622 : BitVec 32 := Scalar.addi v2 c2_i32_247
  let c4_i32_248 : BitVec 32 := 4#32
  let c0_i32_249 : BitVec 32 := 0#32
  let v623 : BitVec 1 := Scalar.cmpi .eq c4_i32_248 c0_i32_249
  let c1_i32_250 : BitVec 32 := 1#32
  let v624 : BitVec 32 := Scalar.select v623 c1_i32_250 c4_i32_248
  let v625 : BitVec 32 := Scalar.remsi v622 v624
  let c0_i32_252 : BitVec 32 := 0#32
  let v627 : BitVec 1 := Scalar.cmpi .slt v625 c0_i32_252
  let c0_i32_253 : BitVec 32 := 0#32
  let v628 : BitVec 1 := Scalar.cmpi .slt v624 c0_i32_253
  let v629 : BitVec 1 := Scalar.xori v627 v628
  let c0_i32_251 : BitVec 32 := 0#32
  let v626 : BitVec 1 := Scalar.cmpi .ne v625 c0_i32_251
  let v630 : BitVec 1 := Scalar.andi v629 v626
  let v631 : BitVec 32 := Scalar.addi v625 v624
  let v632 : BitVec 32 := Scalar.select v630 v631 v625
  let c1_i32_257 : BitVec 32 := 1#32
  let v633 : BitVec 32 := Scalar.muli v632 c1_i32_257
  let v634 : BitVec 32 := Scalar.addi c0_i32_258 v633
  v634.toNat
def k0_dev6 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_261 : BitVec 32 := 3#32
  let v641 : BitVec 32 := Scalar.addi v2 c3_i32_261
  let c4_i32_262 : BitVec 32 := 4#32
  let c0_i32_263 : BitVec 32 := 0#32
  let v642 : BitVec 1 := Scalar.cmpi .eq c4_i32_262 c0_i32_263
  let c1_i32_264 : BitVec 32 := 1#32
  let v643 : BitVec 32 := Scalar.select v642 c1_i32_264 c4_i32_262
  let v644 : BitVec 32 := Scalar.remsi v641 v643
  let c0_i32_266 : BitVec 32 := 0#32
  let v646 : BitVec 1 := Scalar.cmpi .slt v644 c0_i32_266
  let c0_i32_267 : BitVec 32 := 0#32
  let v647 : BitVec 1 := Scalar.cmpi .slt v643 c0_i32_267
  let v648 : BitVec 1 := Scalar.xori v646 v647
  let c0_i32_265 : BitVec 32 := 0#32
  let v645 : BitVec 1 := Scalar.cmpi .ne v644 c0_i32_265
  let v649 : BitVec 1 := Scalar.andi v648 v645
  let v650 : BitVec 32 := Scalar.addi v644 v643
  let v651 : BitVec 32 := Scalar.select v649 v650 v644
  let c1_i32_271 : BitVec 32 := 1#32
  let v652 : BitVec 32 := Scalar.muli v651 c1_i32_271
  let v653 : BitVec 32 := Scalar.addi c0_i32_272 v652
  v653.toNat
abbrev stage0_0 : Fin 1 → Memref sig .tc .vmem S8x8x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x2048x8x64 : Shape := ⟨4, ![8, 2048, 8, 64]⟩
abbrev S8x8x1x2048 : Shape := ⟨4, ![8, 8, 1, 2048]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x2048x8x64, .bf16⟩
  | .hbm, ⟨2, _⟩ => ⟨S8x2048x8x64, .bf16⟩
  | .hbm, ⟨3, _⟩ => ⟨S8x1x8x64, .f32⟩
  | .hbm, ⟨4, _⟩ => ⟨S8x2048x8x64, .f32⟩
  | .hbm, ⟨5, _⟩ => ⟨S8x2048x8x64, .f32⟩
  | .hbm, ⟨6, _⟩ => ⟨S8x8x1x2048, .f32⟩
  | .hbm, ⟨7, _⟩ => ⟨S_, .f32⟩
  | .hbm, ⟨8, _⟩ => ⟨S8x8x1x2048, .f32⟩
  | .hbm, ⟨9, _⟩ => ⟨S8x8x1x2048, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x2048, .f32⟩
  | .hbm, ⟨14, _⟩ => ⟨S8x8x1x2048, .f32⟩
  | .hbm, ⟨15, _⟩ => ⟨S8x8x1x2048, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x2048, .f32⟩
  | .hbm, ⟨20, _⟩ => ⟨S8x8x1x2048, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
# The all-to-all exchange: devices, cells, and the schedule of duties

Every device hands its packed block (64 rows of 128 lanes: the weighted sum, the running maximum, the sum of
exponentials) to the three others. A transfer is named by the SLOT `k` of the receiver's buffer it lands in: device `c`
sends into slot `k` of `dest c k`, and slot `k` of device `c` is filled by `fr c k`. Per device there is one barrier cell
of three duties and, per slot, one send cell and one receive cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-- The exchange's ghost state: cells of rounds, three duty names. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who sends to whom -/

set_option backward.proofsInPublic true in
/-- The device whose slot `k` device `c` fills. -/
def dest (c : Dev nD) (k : Fin 3) : Dev nD := ⟨(c.val + (3 - k.val)) % 4, Nat.mod_lt _ (by decide)⟩
set_option backward.proofsInPublic true in
/-- The device that fills slot `k` of device `c`. -/
def fr (c : Dev nD) (k : Fin 3) : Dev nD := ⟨(c.val + k.val + 1) % 4, Nat.mod_lt _ (by decide)⟩
theorem dest_fr (c : Dev nD) (k : Fin 3) : dest (fr c k) k = c := by revert c k; decide
theorem fr_dest (c : Dev nD) (k : Fin 3) : fr (dest c k) k = c := by revert c k; decide

/-- For each slot the senders and receivers correspond one to one. -/
def hop (k : Fin 3) : Dev nD ≃ Dev nD := ⟨fun c => dest c k, fun c => fr c k, fun c => fr_dest c k, fun c => dest_fr c k⟩

/-- The signals name the devices that fill this device's slots, in slot order. -/
theorem dev1_eq : ∀ c : Dev nD, (⟨k0_dev1 c, k0_dev1_lt c⟩ : Dev nD) = fr c 0 := by decide +kernel
theorem dev2_eq : ∀ c : Dev nD, (⟨k0_dev2 c, k0_dev2_lt c⟩ : Dev nD) = fr c 1 := by decide +kernel
theorem dev3_eq : ∀ c : Dev nD, (⟨k0_dev3 c, k0_dev3_lt c⟩ : Dev nD) = fr c 2 := by decide +kernel
/-- The transfers name the devices whose slots 2, 1, 0 this device fills. -/
theorem dev4_eq : ∀ c : Dev nD, (⟨k0_dev4 c, k0_dev4_lt c⟩ : Dev nD) = dest c 2 := by decide +kernel
theorem dev5_eq : ∀ c : Dev nD, (⟨k0_dev5 c, k0_dev5_lt c⟩ : Dev nD) = dest c 1 := by decide +kernel
theorem dev6_eq : ∀ c : Dev nD, (⟨k0_dev6 c, k0_dev6_lt c⟩ : Dev nD) = dest c 0 := by decide +kernel

/-! ## Memrefs, semaphores, cells -/

/-- The packed block, and the buffer of the three landed ones. -/
abbrev mineM : Memref sig .tc .vmem S64x128 .f32 := Memref.whole cc0_scratch0
abbrev commM : Memref sig .tc .vmem S3x64x128 .f32 := Memref.whole cc0_scratch1

abbrev slot0 : Memref sig .tc .vmem S64x128 .f32 :=
  (commM.slice (Rect.unit (s := S3x64x128) ![0, 0, 0] S1x64x128.size inb_S3x64x128_S1x64x128_0_0_0) (fun _ => rfl)).squeeze S64x128 squeezes_S1x64x128_S64x128
abbrev slot1 : Memref sig .tc .vmem S64x128 .f32 :=
  (commM.slice (Rect.unit (s := S3x64x128) ![1, 0, 0] S1x64x128.size inb_S3x64x128_S1x64x128_1_0_0) (fun _ => rfl)).squeeze S64x128 squeezes_S1x64x128_S64x128
abbrev slot2 : Memref sig .tc .vmem S64x128 .f32 :=
  (commM.slice (Rect.unit (s := S3x64x128) ![2, 0, 0] S1x64x128.size inb_S3x64x128_S1x64x128_2_0_0) (fun _ => rfl)).squeeze S64x128 squeezes_S1x64x128_S64x128

/-- The barrier semaphore, and per slot the send and the receive semaphore. -/
abbrev barS : Sem sig := (SemArray.scalar (sig.barrier 0 rfl) : Sems sig S_).sem
set_option backward.proofsInPublic true in
abbrev sS (k : Fin 3) : DmaSem sig := ⟨6 - k.val, by show 6 - k.val < 10; omega⟩
set_option backward.proofsInPublic true in
abbrev rS (k : Fin 3) : DmaSem sig := ⟨7 + k.val, by show 7 + k.val < 10; omega⟩

theorem send0 : ((cc0_scratch2.slice (Rect.unit (s := S3) ![0] S1.size inb_S3_S1_0)).squeeze S_ squeezes_S1_S_).sem = sS 2 := rfl
theorem send1 : ((cc0_scratch2.slice (Rect.unit (s := S3) ![1] S1.size inb_S3_S1_1)).squeeze S_ squeezes_S1_S_).sem = sS 1 := rfl
theorem send2 : ((cc0_scratch2.slice (Rect.unit (s := S3) ![2] S1.size inb_S3_S1_2)).squeeze S_ squeezes_S1_S_).sem = sS 0 := rfl
theorem recv0 : ((cc0_scratch3.slice (Rect.unit (s := S3) ![0] S1.size inb_S3_S1_0)).squeeze S_ squeezes_S1_S_).sem = rS 0 := rfl
theorem recv1 : ((cc0_scratch3.slice (Rect.unit (s := S3) ![1] S1.size inb_S3_S1_1)).squeeze S_ squeezes_S1_S_).sem = rS 1 := rfl
theorem recv2 : ((cc0_scratch3.slice (Rect.unit (s := S3) ![2] S1.size inb_S3_S1_2)).squeeze S_ squeezes_S1_S_).sem = rS 2 := rfl

abbrev barCell (c : Dev nD) : GSem nD τ sig := ((c : Thread nD τ), .reg barS)
abbrev sendCell (c : Dev nD) (k : Fin 3) : GSem nD τ sig := ((c : Thread nD τ), .dma (sS k))
abbrev recvCell (c : Dev nD) (k : Fin 3) : GSem nD τ sig := ((c : Thread nD τ), .dma (rS k))

/-- What a transfer of the packed block credits. -/
abbrev N : ℕ := (mineM : Memref sig .tc .vmem S64x128 .f32).view.dmaCredit
theorem N_pos : 0 < N := View.dmaCredit_pos _ (by decide)

/-! ## Contents -/

/-- Two packed blocks agree on the lanes that are ever written: columns 0 to 65. -/
def Agree (f g : S64x128.Idx → Elt F .f32) : Prop := ∀ i : S64x128.Idx, (i 1).val < 66 → f i = g i

/-- Slot `k` of the landing buffer's contents. -/
def slotOf (k : Fin 3) (f : S3x64x128.Idx → Elt F .f32) : S64x128.Idx → Elt F .f32 := fun i => f (ix3 k (i 0) (i 1))

/-- The elements of slot `k`. -/
def slotSet (k : Fin 3) : Finset S3x64x128.Idx := Finset.univ.filter fun x => (x 0).val = k.val

/-- Slot `k` of device `c`'s landing buffer, whole, at `f`. -/
def slotPts (c : Dev nD) (k : Fin 3) (f : S3x64x128.Idx → Elt F .f32) : sProp 𝕄 :=
  ((c : Thread nD τ).loc cc0_scratch1) ↦[slotSet k]{fullShare} f

/-- The share of the packed block lent to the transfer into slot `k`; a fourth share stays with the device. -/
def lent : Fin 3 → PosShare TreeShare
  | 0 => fullShare.right.right.left
  | 1 => fullShare.right.left
  | 2 => fullShare.left
abbrev kept : PosShare TreeShare := fullShare.right.right.right

/-- The packed block of device `c` at share `q`. -/
def minePts (c : Dev nD) (q : PosShare TreeShare) (f : S64x128.Idx → Elt F .f32) : sProp 𝕄 :=
  ((c : Thread nD τ).loc cc0_scratch0) ↦{q} f

omit [FloatOps F] in
instance slotPts_storable (c : Dev nD) (k) (f) : BI.Storable (upEmb : UEmb _ 𝕄) (slotPts (F := F) c k f) := by unfold slotPts; infer_instance
omit [FloatOps F] in
instance minePts_storable (c : Dev nD) (q) (f) : BI.Storable (upEmb : UEmb _ 𝕄) (minePts (F := F) c q f) := by unfold minePts; infer_instance

/-! ## The schedule -/

variable (M : Dev nD → S64x128.Idx → Elt F .f32)

/-- Duty `k` of device `d`'s barrier, paid by `dest d k`: that device's slot `k`, and that round 0 of its receive cell is reached. -/
def barPay (d : Dev nD) (k : Fin 3) : sProp 𝕄 := iprop((∃ f, slotPts (F := F) (dest d k) k f) ∗ reached ER (recvCell (dest d k) k) 0)
/-- A landed transfer: slot `k`, holding what `fr d k` packed. -/
def recvPay (d : Dev nD) (k : Fin 3) : sProp 𝕄 := iprop(∃ f, ⌜Agree (slotOf k f) (M (fr d k))⌝ ∗ slotPts (F := F) d k f)
/-- A completed send: the share lent to it. -/
def sendPay (d : Dev nD) (k : Fin 3) : sProp 𝕄 := iprop(∃ f, minePts (F := F) d (lent k) f)

abbrev IsBar (g : GSem nD τ sig) : Prop := g.1.2 = .tc ∧ g.2 = .reg barS
abbrev IsXfer (g : GSem nD τ sig) : Prop := g.1.2 = .tc ∧ ∃ k : Fin 3, g.2 = .dma (sS k) ∨ g.2 = .dma (rS k)

/-- Round 0: three duties on every barrier cell, one on every send and receive cell. -/
def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (sS 0) then sendPay g.1.1 0
    else if g.2 = .dma (sS 1) then sendPay g.1.1 1
    else if g.2 = .dma (sS 2) then sendPay g.1.1 2
    else if g.2 = .dma (rS 0) then recvPay M g.1.1 0
    else if g.2 = .dma (rS 1) then recvPay M g.1.1 1
    else if g.2 = .dma (rS 2) then recvPay M g.1.1 2
    else iprop(emp)
  amount_pos g _ _ _ := by
    by_cases h : g.2 = .reg barS
    · rw [if_pos h]; exact Nat.one_pos
    · rw [if_neg h]; exact N_pos

omit [FloatOps F] in
instance rd_payload_storable (g : GSem nD τ sig) (r : ℕ) (d : Fin 3) :
    BI.Storable (upEmb : UEmb _ 𝕄) ((rd (F := F) M).payload g r d) := by
  unfold rd barPay sendPay recvPay
  dsimp only
  (repeat' split) <;> infer_instance

section Sched
variable (c : Dev nD) (k d : Fin 3)

theorem dma_ne_bar (q : DmaSem sig) : (SemLoc.dma q : SemLoc sig) ≠ .reg barS := fun h => by cases h

omit [FloatOps F] in
theorem duties_bar : (rd (F := F) M).duties (barCell c) 0 = Finset.univ := by dsimp only [rd]; exact if_pos ⟨rfl, rfl, rfl⟩
omit [FloatOps F] in
theorem duties_send : (rd (F := F) M).duties (sendCell c k) 0 = {0} := by
  dsimp only [rd]; rw [if_neg (fun h => dma_ne_bar _ h.2.2)]; exact if_pos ⟨rfl, rfl, k, .inl rfl⟩
omit [FloatOps F] in
theorem duties_recv : (rd (F := F) M).duties (recvCell c k) 0 = {0} := by
  dsimp only [rd]; rw [if_neg (fun h => dma_ne_bar _ h.2.2)]; exact if_pos ⟨rfl, rfl, k, .inr rfl⟩
omit [FloatOps F] in
theorem duties_later (g : GSem nD τ sig) : ∀ r, 1 ≤ r → (rd (F := F) M).duties g r = ∅ :=
  fun r hr => by dsimp only [rd]; rw [if_neg fun h => by omega, if_neg fun h => by omega]

omit [FloatOps F] in
theorem amount_bar : (rd (F := F) M).amount (barCell c) 0 d = 1 := by dsimp only [rd]; exact if_pos rfl
omit [FloatOps F] in
theorem amount_dma (q : DmaSem sig) : (rd (F := F) M).amount ((c : Thread nD τ), .dma q) 0 d = N := by
  dsimp only [rd]; exact if_neg (dma_ne_bar q)

omit [FloatOps F] in
theorem expect_bar : (rd (F := F) M).expect (barCell c) 0 = 3 := by
  unfold Schedule.expect Schedule.amountOf
  rw [duties_bar, Finset.sum_congr rfl fun d _ => amount_bar M c d, Finset.sum_const, Finset.card_univ, Fintype.card_fin, smul_eq_mul]
omit [FloatOps F] in
theorem expect_send : (rd (F := F) M).expect (sendCell c k) 0 = N := by
  unfold Schedule.expect Schedule.amountOf; rw [duties_send, Finset.sum_singleton, amount_dma]
omit [FloatOps F] in
theorem expect_recv : (rd (F := F) M).expect (recvCell c k) 0 = N := by
  unfold Schedule.expect Schedule.amountOf; rw [duties_recv, Finset.sum_singleton, amount_dma]

omit [FloatOps F] in
theorem payload_bar : (rd (F := F) M).payload (barCell c) 0 d = barPay c d := by dsimp only [rd]; exact if_pos rfl
omit [FloatOps F] in
theorem payload_send : (rd (F := F) M).payload (sendCell c k) 0 d = sendPay c k := by
  dsimp only [rd]; rw [if_neg (dma_ne_bar _)]
  fin_cases k
  · exact if_pos rfl
  · rw [if_neg (by decide)]; exact if_pos rfl
  · rw [if_neg (by decide), if_neg (by decide)]; exact if_pos rfl
omit [FloatOps F] in
theorem payload_recv : (rd (F := F) M).payload (recvCell c k) 0 d = recvPay M c k := by
  dsimp only [rd]; rw [if_neg (dma_ne_bar _)]
  fin_cases k
  · rw [if_neg (by decide), if_neg (by decide), if_neg (by decide)]; exact if_pos rfl
  · rw [if_neg (by decide), if_neg (by decide), if_neg (by decide), if_neg (by decide)]; exact if_pos rfl
  · rw [if_neg (by decide), if_neg (by decide), if_neg (by decide), if_neg (by decide), if_neg (by decide)]; exact if_pos rfl

/-- Three conjuncts, one per slot. -/
abbrev three {M' : Type} [URA M'] (Φ : Fin 3 → sProp M') : sProp M' := iprop(Φ 0 ∗ Φ 1 ∗ Φ 2)
theorem bigSep_three {M' : Type} [URA M'] (Φ : Fin 3 → sProp M') : bigSep Finset.univ Φ = three Φ :=
  bigSep_univ_eq_bigSepL [(0 : Fin 3), 1, 2] (by decide) (by decide) Φ

omit [FloatOps F] in
theorem rest_bar : bigSep ((rd (F := F) M).duties (barCell c) 0 \ ∅) (fun u => (rd (F := F) M).payload (barCell c) 0 u)
    = three fun k => barPay (F := F) c k := by
  rw [Finset.sdiff_empty, duties_bar, bigSep_three]
  simp only [payload_bar]
omit [FloatOps F] in
theorem rest_send : bigSep ((rd (F := F) M).duties (sendCell c k) 0 \ ∅) (fun u => (rd (F := F) M).payload (sendCell c k) 0 u) = sendPay c k := by
  rw [Finset.sdiff_empty, duties_send, bigSep_singleton, payload_send]
omit [FloatOps F] in
theorem rest_recv : bigSep ((rd (F := F) M).duties (recvCell c k) 0 \ ∅) (fun u => (rd (F := F) M).payload (recvCell c k) 0 u) = recvPay M c k := by
  rw [Finset.sdiff_empty, duties_recv, bigSep_singleton, payload_recv]

end Sched

/-! ## What each core owes at launch; the levels -/

/-- After its signals a device owes the three receive credits, the transfer issued first outermost. -/
def Or (c : Dev nD) : CellTallies nD τ sig Unit :=
  0 + tallyAt (recvCell (dest c 0) 0) () N + tallyAt (recvCell (dest c 1) 1) () N + tallyAt (recvCell (dest c 2) 2) () N
/-- At launch also a unit on each of the other barrier cells, the one signalled first outermost. -/
def O₀ (c : Dev nD) : CellTallies nD τ sig Unit :=
  Or c + tallyAt (barCell (fr c 2)) () 1 + tallyAt (barCell (fr c 1)) () 1 + tallyAt (barCell (fr c 0)) () 1

def L (g : GSem nD τ sig) : Finset Unit := if g.1.2 = .tc then {()} else ∅
/-- Barrier cells at 1, receive cells at 2, the rest at 0. -/
def lv (g : GSem nD τ sig) (_ : Unit) : ℕ := if g.2 = .reg barS then 1 else if ∃ k : Fin 3, g.2 = .dma (rS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u : Unit) : lv (barCell c) u = 1 := if_pos rfl
theorem lv_recv (c : Dev nD) (k : Fin 3) (u : Unit) : lv (recvCell c k) u = 2 := by
  unfold lv; rw [if_neg (dma_ne_bar _)]; exact if_pos ⟨k, rfl⟩

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos' {A B : CellTallies nD τ sig Unit} {g : GSem nD τ sig} {u : Unit} (h : 0 < (A + B) g u) : 0 < A g u ∨ 0 < B g u := by
  rw [Pi.add_apply, Finsupp.add_apply] at h
  omega

theorem Or_pos {c : Dev nD} {g : GSem nD τ sig} {u : Unit} (h : 0 < Or c g u) : ∃ d k, g = recvCell d k := by
  unfold Or at h
  rcases add_pos' h with h | h
  · rcases add_pos' h with h | h
    · rcases add_pos' h with h | h
      · exact absurd h (Nat.lt_irrefl 0)
      · exact ⟨_, _, tally_pos h⟩
    · exact ⟨_, _, tally_pos h⟩
  · exact ⟨_, _, tally_pos h⟩
theorem O₀_pos {c : Dev nD} {g : GSem nD τ sig} {u : Unit} (h : 0 < O₀ c g u) : (∃ d k, g = recvCell d k) ∨ ∃ d, g = barCell d := by
  unfold O₀ at h
  rcases add_pos' h with h | h
  · rcases add_pos' h with h | h
    · rcases add_pos' h with h | h
      · exact .inl (Or_pos h)
      · exact .inr ⟨_, tally_pos h⟩
    · exact .inr ⟨_, tally_pos h⟩
  · exact .inr ⟨_, tally_pos h⟩

omit [FloatOps F] in
/-- At its barrier wait a device owes receive credits only: cells above its barrier cell. -/
theorem mayWait_bar (c : Dev nD) : (levAts L lv : sProp 𝕄) ⊢ MayWait (c : Thread nD τ) (.reg barS) () (Or c) :=
  MayOwe.of_cut (L := L) (lev := lv) 1 (fun p hp => by rw [Finset.mem_singleton.mp hp]; exact mem_L ..)
    (fun g u hg => by obtain ⟨d, k, rfl⟩ := Or_pos hg; exact mem_L ..)
    (fun p hp => by rw [Finset.mem_singleton.mp hp]; exact le_of_eq (lv_bar c ()))
    (fun g u hg => by obtain ⟨d, k, rfl⟩ := Or_pos hg; rw [lv_recv]; decide)

omit [FloatOps F] in
/-- The pipeline's own waits are on cells of level 0, below everything a device ever owes. -/
theorem mayWait_stage (c : Dev nD) (q : DmaSem sig) (hq : ¬ ∃ k : Fin 3, (SemLoc.dma q : SemLoc sig) = .dma (rS k))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L ..)
      (fun g u hg => by rcases O₀_pos hg with ⟨d, k, rfl⟩ | ⟨d, rfl⟩ <;> exact mem_L ..)
      (fun p hp => by rw [Finset.mem_singleton.mp hp]; dsimp only [lv]; rw [if_neg (dma_ne_bar q), if_neg hq])
      (fun g u hg => by
        rcases O₀_pos hg with ⟨d, k, rfl⟩ | ⟨d, rfl⟩
        · rw [lv_recv]; decide
        · rw [lv_bar]; decide)
  · rw [MayWait_zero]; iintro -; iempintro

/-! ## The ghost state a device carries -/

/-- The invariants device `c` opens: its own cells, the barrier cells it signals, the receive cells it sends to. -/
def invs (K : GSem nD τ sig → ℕ) (c : Dev nD) : sProp 𝕄 :=
  iprop(cellInv ER (rd M) (K (barCell c)) (barCell c)
    ∗ (three fun k => cellInv ER (rd M) (K (sendCell c k)) (sendCell c k))
    ∗ (three fun k => cellInv ER (rd M) (K (recvCell c k)) (recvCell c k))
    ∗ (three fun k => cellInv ER (rd M) (K (barCell (fr c k))) (barCell (fr c k)))
    ∗ (three fun k => cellInv ER (rd M) (K (recvCell (dest c k) k)) (recvCell (dest c k) k)))

omit [FloatOps F] in
instance invs_persistent (K : GSem nD τ sig → ℕ) (c : Dev nD) : BI.Persistent (invs M K c) := by unfold invs; infer_instance

/-- The duty tokens device `c` pays with. -/
def payToks (c : Dev nD) : sProp 𝕄 :=
  iprop((three fun k => dutyTok ER (barCell (fr c k)) 0 k) ∗ (three fun k => dutyTok ER (recvCell (dest c k) k) 0 (0 : Fin 3))
    ∗ (three fun k => dutyTok ER (sendCell c k) 0 (0 : Fin 3)))

/-- What device `c` carries from launch: its place on its barrier cell, the right to open its send and receive cells, and its tokens. -/
def ghost (K : GSem nD τ sig → ℕ) (c : Dev nD) : sProp 𝕄 :=
  iprop(invs M K c ∗ atPos ER (barCell c) 0 (∅ : Finset (Fin 3)) 0
    ∗ (three fun k => openTok ER (sendCell c k)) ∗ (three fun k => openTok ER (recvCell c k))
    ∗ (three fun k => reached ER (barCell (fr c k)) 0) ∗ payToks c)

/-- The credits it waits with. -/
def creds (c : Dev nD) : sProp 𝕄 :=
  iprop(cred (tallyAt (barCell c) () 3) ∗ three fun k => cred (tallyAt (recvCell c k) () N))

def start (c : Dev nD) : sProp 𝕄 := iprop((∃ K, ghost M K c) ∗ creds c ∗ ∃ r, prngReg c r)

/-- The same once the send and receive cells are open. -/
def opened (K : GSem nD τ sig → ℕ) (c : Dev nD) : sProp 𝕄 :=
  iprop(invs M K c ∗ atPos ER (barCell c) 0 (∅ : Finset (Fin 3)) 0
    ∗ (three fun k => atPos ER (sendCell c k) 0 (∅ : Finset (Fin 3)) 0) ∗ (three fun k => atPos ER (recvCell c k) 0 (∅ : Finset (Fin 3)) 0)
    ∗ (three fun k => reached ER (sendCell c k) 0) ∗ (three fun k => reached ER (recvCell c k) 0)
    ∗ (three fun k => reached ER (barCell (fr c k)) 0) ∗ payToks c)

omit [FloatOps F] in
/-- A cell past its one round has its counter back at zero. -/
theorem close (κ : ℕ) (g : GSem nD τ sig) :
    iprop(cellInv ER (rd M) κ g ∗ atPos ER g (0 + 1) (∅ : Finset (Fin 3)) 0) ⊢ (|={Set.univ}=> semVal g 0 : sProp 𝕄) :=
  Rounds.cell_close ER (rd M) (Set.mem_univ κ) id (duties_later M g)

abbrev 𝒱₀ : Variants := Variants.none

end Cert.KernelIdeal.Decode

end
-- ==== Proof.Contents.lean ====
/-
# What the buffers hold

One device's packed block as a function of its three staged inputs, and the result as a function of four packed blocks.
-/
module

public import proofs.«01_k».proof.Proof.Protocol
public import Idealize.ShloMosaic.Lib.Pipeline.Value

@[expose] public section

noncomputable section

namespace Cert.KernelIdeal.Decode

open Cert.KernelIdeal Cert.KernelIdeal.Gen
open Idealize.ShloMosaic Idealize.ShloMosaic.TcCoe
open Idealize.SL Idealize.SL.Sem
open Idealize.ShloMosaic.ValueIdx (ix2 ix3 ix4)

variable {F : FTy → Type} [FloatOps F]

/-! ## One batch row's share: maximum, sum of exponentials, weighted sum -/

/-- Batch row `b` of the block-diagonal queries. -/
def qB (X : S8x8x512.Idx → Elt F .bf16) (b : Fin 8) : Vec F S1x8x512 .bf16 := fun i => X (ix3 b (i 1) (i 2))
/-- Batch row `b` of the keys, or of the values. -/
def kB (X : S8x512x512.Idx → Elt F .bf16) (b : Fin 8) : Vec F S1x512x512 .bf16 := fun i => X (ix3 b (i 1) (i 2))

/-- The maximum of each head's scores. -/
def mOf (q : Vec F S1x8x512 .bf16) (k : Vec F S1x512x512 .bf16) : FVec F S8x1 .f32 := k0_pay5 q k
/-- The sum of each head's exponentials. -/
def lOf (q : Vec F S1x8x512 .bf16) (k : Vec F S1x512x512 .bf16) : FVec F S8x1 .f32 := k0_pay6 q k
/-- Each head's weighted sum of the values. -/
def oOf (q : Vec F S1x8x512 .bf16) (k v : Vec F S1x512x512 .bf16) : FVec F S8x64 .f32 :=
  k0_pay15 (k0_pay12 (k0_pay4 q k) v) (iota .tc S8x512 32 [0] iota_S8x512_d0_w32) (iota .tc S8x512 32 [1] iota_S8x512_d1_w32) 64#32
    k0_pay13 k0_pay14 (Scalar.extui (Scalar.cmpi .sgt (64#32) (0#32))) (Scalar.cmpi .slt (64#32) (0#32))

set_option backward.proofsInPublic true in
/-- The batch row and the head a packed row stands for. -/
def rowB (r : Fin 64) : Fin 8 := ⟨r.val / 8, by omega⟩
set_option backward.proofsInPublic true in
def rowH (r : Fin 64) : Fin 8 := ⟨r.val % 8, by omega⟩

/-- The packed block: lanes 0 to 63 the weighted sum, lane 64 the maximum, lane 65 the sum of exponentials. -/
def pack (X0 : S8x8x512.Idx → Elt F .bf16) (X1 X2 : S8x512x512.Idx → Elt F .bf16) : S64x128.Idx → Elt F .f32 := fun i =>
  if h : (i 1).val < 64 then oOf (qB X0 (rowB (i 0))) (kB X1 (rowB (i 0))) (kB X2 (rowB (i 0))) (ix2 (rowH (i 0)) ⟨(i 1).val, h⟩)
  else if (i 1).val = 64 then mOf (qB X0 (rowB (i 0))) (kB X1 (rowB (i 0))) (ix2 (rowH (i 0)) 0)
  else lOf (qB X0 (rowB (i 0))) (kB X1 (rowB (i 0))) (ix2 (rowH (i 0)) 0)

/-! ## The combination of four packed blocks -/

/-- Lane `a` of a packed block as a column; the same as a slot of the landing buffer is read. -/
def lane (a : Fin 128) (g : S64x128.Idx → Elt F .f32) : Vec F S64x1 .f32 := fun i => g (ix2 (i 0) a)
def lane' (a : Fin 128) (g : S64x128.Idx → Elt F .f32) : Vec F S1x64x1 .f32 := fun i => g (ix2 (i 1) a)
set_option backward.proofsInPublic true in
/-- Lanes 0 to 63 of a packed block; the same as a slot of the landing buffer is read. -/
def wide (g : S64x128.Idx → Elt F .f32) : Vec F S64x64 .f32 := fun i => g (ix2 (i 0) ⟨(i 1).val, Nat.lt_trans (show (i 1).val < 64 from (i 1).isLt) (by decide)⟩)
set_option backward.proofsInPublic true in
def wide' (g : S64x128.Idx → Elt F .f32) : Vec F S1x64x64 .f32 := fun i => g (ix2 (i 1) ⟨(i 2).val, Nat.lt_trans (show (i 2).val < 64 from (i 2).isLt) (by decide)⟩)

/-- The result of combining the device's own block `g` with the landed blocks `h0`, `h1`, `h2`. -/
def outOf (g h0 h1 h2 : S64x128.Idx → Elt F .f32) : FVec F S64x64 .f32 :=
  k0_pay1 (k0_pay77 (lane 64 g) (k0_pay70 (lane' 64 h0)) (k0_pay71 (lane' 64 h1)) (lane' 64 h2))
    (k0_pay78 (lane 64 g) (k0_pay70 (lane' 64 h0)) (k0_pay71 (lane' 64 h1)) (lane' 64 h2) (lane 65 g) (lane' 65 h0) (lane' 65 h1) (lane' 65 h2))
    (k0_pay79 (lane 64 g) (k0_pay70 (lane' 64 h0)) (k0_pay71 (lane' 64 h1)) (lane' 64 h2) (wide g) (wide' h0))
    (k0_pay80 (wide' h1))
    (k0_pay81 (lane 64 g) (k0_pay70 (lane' 64 h0)) (k0_pay71 (lane' 64 h1)) (lane' 64 h2))
    (wide' h2)

omit [FloatOps F] in
theorem lane_congr {a : Fin 128} (ha : a.val < 66) {g g' : S64x128.Idx → Elt F .f32} (h : Agree g g') : lane a g = lane a g' :=
  funext fun i => h _ ha
omit [FloatOps F] in
theorem lane'_congr {a : Fin 128} (ha : a.val < 66) {g g' : S64x128.Idx → Elt F .f32} (h : Agree g g') : lane' a g = lane' a g' :=
  funext fun i => h _ ha
omit [FloatOps F] in
theorem wide_congr {g g' : S64x128.Idx → Elt F .f32} (h : Agree g g') : wide g = wide g' :=
  funext fun i => h _ (Nat.lt_trans (show (i 1).val < 64 from (i 1).isLt) (by decide))
omit [FloatOps F] in
theorem wide'_congr {g g' : S64x128.Idx → Elt F .f32} (h : Agree g g') : wide' g = wide' g' :=
  funext fun i => h _ (Nat.lt_trans (show (i 2).val < 64 from (i 2).isLt) (by decide))

/-- The combination reads only lanes that agree. -/
theorem outOf_congr {g g' h0 h0' h1 h1' h2 h2' : S64x128.Idx → Elt F .f32} (hg : Agree g g') (e0 : Agree h0 h0') (e1 : Agree h1 h1') (e2 : Agree h2 h2') :
    outOf g h0 h1 h2 = outOf g' h0' h1' h2' := by
  unfold outOf
  rw [lane_congr (a := 64) (by decide) hg, lane_congr (a := 65) (by decide) hg, wide_congr hg,
    lane'_congr (a := 64) (by decide) e0, lane'_congr (a := 65) (by decide) e0, wide'_congr e0,
    lane'_congr (a := 64) (by decide) e1, lane'_congr (a := 65) (by decide) e1, wide'_congr e1,
    lane'_congr (a := 64) (by decide) e2, lane'_congr (a := 65) (by decide) e2, wide'_congr e2]

/-! ## The landing buffer's slots -/

section Slots

omit [FloatOps F]

/-- The window of the landing buffer at offset `k` on its first axis is the elements whose first coordinate is `k`. -/
theorem window_set (k : Fin 3) {off : Fin 3 → ℕ} (h0 : off 0 = k.val) (h1 : off 1 = 0) (h2 : off 2 = 0)
    (inb : ∀ a, off a + S1x64x128.size a ≤ S3x64x128.size a) :
    ((View.whole cc0_scratch1).slice (Rect.unit (s := S3x64x128) off S1x64x128.size inb)).set = slotSet k := by
  rw [View.set_slice_whole]
  ext i
  rw [slotSet, Finset.mem_filter, Rect.mem_set_unit]
  have e1 : (i 1).val < 64 := (i 1).isLt
  have e2 : (i 2).val < 128 := (i 2).isLt
  constructor
  · intro h
    have := h 0
    rw [h0] at this
    exact ⟨Finset.mem_univ _, Nat.le_antisymm (Nat.lt_succ_iff.mp this.2) this.1⟩
  · rintro ⟨-, h⟩ a
    match a with
    | 0 => rw [h0]; exact ⟨le_of_eq h.symm, Nat.lt_succ_of_le (le_of_eq h)⟩
    | 1 => rw [h1]; exact ⟨Nat.zero_le _, (Nat.zero_add 64).symm ▸ e1⟩
    | 2 => rw [h2]; exact ⟨Nat.zero_le _, (Nat.zero_add 128).symm ▸ e2⟩

theorem slot0_set : (slot0 : Memref sig .tc .vmem S64x128 .f32).view.set = slotSet 0 :=
  (View.set_reshape _ _).trans (window_set 0 (off := ![0, 0, 0]) rfl rfl rfl inb_S3x64x128_S1x64x128_0_0_0)
theorem slot1_set : (slot1 : Memref sig .tc .vmem S64x128 .f32).view.set = slotSet 1 :=
  (View.set_reshape _ _).trans (window_set 1 (off := ![1, 0, 0]) rfl rfl rfl inb_S3x64x128_S1x64x128_1_0_0)
theorem slot2_set : (slot2 : Memref sig .tc .vmem S64x128 .f32).view.set = slotSet 2 :=
  (View.set_reshape _ _).trans (window_set 2 (off := ![2, 0, 0]) rfl rfl rfl inb_S3x64x128_S1x64x128_2_0_0)

theorem casts_slot : S1x64x128.ShapeCasts S64x128 := by decide

/-- The window read as a block of 64 by 128 is the slot. -/
theorem window_read (k : Fin 3) {off : Fin 3 → ℕ} (h0 : off 0 = k.val) (h1 : off 1 = 0) (h2 : off 2 = 0)
    (inb : ∀ a, off a + S1x64x128.size a ≤ S3x64x128.size a) (f : S3x64x128.Idx → Elt F .f32) :
    shapeCast S64x128 (commM.view.readAt (Elt F) (Rect.unit (s := S3x64x128) off S1x64x128.size inb).toLoadRect f) casts_slot = slotOf k f := by
  funext i
  refine (shapeCast_dropUnit_apply ![64, 128] _ _ i).trans ?_
  show f _ = f _
  congr 1
  funext a
  match a with
  | 0 => exact Fin.ext (by show off 0 + 1 * 0 = k.val; rw [h0]; omega)
  | 1 => exact Fin.ext (by show off 1 + 1 * (i 0).val = (i 0).val; rw [h1]; omega)
  | 2 => exact Fin.ext (by show off 2 + 1 * (i 1).val = (i 1).val; rw [h2]; omega)

theorem slot0_read (f : S3x64x128.Idx → Elt F .f32) : (slot0 : Memref sig .tc .vmem S64x128 .f32).view.read (Elt F) f = slotOf 0 f :=
  (Memref.read_squeeze_slice commM _ _ _ casts_slot f).trans (window_read 0 (off := ![0, 0, 0]) rfl rfl rfl inb_S3x64x128_S1x64x128_0_0_0 f)
theorem slot1_read (f : S3x64x128.Idx → Elt F .f32) : (slot1 : Memref sig .tc .vmem S64x128 .f32).view.read (Elt F) f = slotOf 1 f :=
  (Memref.read_squeeze_slice commM _ _ _ casts_slot f).trans (window_read 1 (off := ![1, 0, 0]) rfl rfl rfl inb_S3x64x128_S1x64x128_1_0_0 f)
theorem slot2_read (f : S3x64x128.Idx → Elt F .f32) : (slot2 : Memref sig .tc .vmem S64x128 .f32).view.read (Elt F) f = slotOf 2 f :=
  (Memref.read_squeeze_slice commM _ _ _ casts_slot f).trans (window_read 2 (off := ![2, 0, 0]) rfl rfl rfl inb_S3x64x128_S1x64x128_2_0_0 f)

/-- The three slots are disjoint, and together the landing buffer. -/
theorem slot_disjoint {k k' : Fin 3} (h : k ≠ k') : Disjoint (slotSet k) (slotSet k') := by
  rw [Finset.disjoint_left]
  intro i hi hi'
  rw [slotSet, Finset.mem_filter] at hi hi'
  exact h (Fin.ext (hi.2.symm.trans hi'.2))
theorem slot_union : slotSet 0 ∪ (slotSet 1 ∪ slotSet 2) = Finset.univ := by
  ext i
  have e0 : (i 0).val < 3 := (i 0).isLt
  simp only [slotSet, Finset.mem_union, Finset.mem_filter, Finset.mem_univ, true_and, iff_true, Fin.val_zero, Fin.val_one, Fin.val_two]
  omega

end Slots

end Cert.KernelIdeal.Decode

end
-- ==== Proof.Packing.lean ====
/-
# The stores that pack a block, and the loads that combine four
-/
module

public import proofs.«01_k».proof.Proof.Contents
public import Idealize.ShloMosaic.Lib.CellWrites

@[expose] public section

noncomputable section

namespace Cert.KernelIdeal.Decode

open Cert.KernelIdeal Cert.KernelIdeal.Gen
open Idealize.ShloMosaic Idealize.ShloMosaic.TcCoe
open Idealize.ShloMosaic.ValueIdx (ix2 ix3 ix4)

variable {F : FTy → Type} [FloatOps F]
variable (X0 : S8x8x512.Idx → Elt F .bf16) (X1 X2 : S8x512x512.Idx → Elt F .bf16)

omit [FloatOps F] in
/-- A load of one batch row of the queries. -/
theorem read_q (b : Fin 8) {off : Fin 3 → ℕ} (inb : ∀ a, off a + S1x8x512.size a ≤ S8x8x512.size a)
    (h : off = ![b.val, 0, 0]) :
    View.readAt (Elt F) (Memref.whole cc0_stg0_0).view (Rect.unit (s := S8x8x512) off S1x8x512.size inb).toLoadRect X0 = qB X0 b := by
  subst h
  funext i
  refine congrArg X0 (funext fun a => Fin.ext ?_)
  match a with
  | 0 => show b.val + 1 * (i 0).val = b.val; have : (i 0).val < 1 := (i 0).isLt; omega
  | 1 => show 0 + 1 * (i 1).val = (i 1).val; omega
  | 2 => show 0 + 1 * (i 2).val = (i 2).val; omega

omit [FloatOps F] in
/-- A load of one batch row of the keys. -/
theorem read_k (b : Fin 8) {off : Fin 3 → ℕ} (inb : ∀ a, off a + S1x512x512.size a ≤ S8x512x512.size a)
    (h : off = ![b.val, 0, 0]) :
    View.readAt (Elt F) (Memref.whole cc0_stg1_0).view (Rect.unit (s := S8x512x512) off S1x512x512.size inb).toLoadRect X1 = kB X1 b := by
  subst h
  funext i
  refine congrArg X1 (funext fun a => Fin.ext ?_)
  match a with
  | 0 => show b.val + 1 * (i 0).val = b.val; have : (i 0).val < 1 := (i 0).isLt; omega
  | 1 => show 0 + 1 * (i 1).val = (i 1).val; omega
  | 2 => show 0 + 1 * (i 2).val = (i 2).val; omega

omit [FloatOps F] in
/-- A load of one batch row of the values. -/
theorem read_v (b : Fin 8) {off : Fin 3 → ℕ} (inb : ∀ a, off a + S1x512x512.size a ≤ S8x512x512.size a)
    (h : off = ![b.val, 0, 0]) :
    View.readAt (Elt F) (Memref.whole cc0_stg2_0).view (Rect.unit (s := S8x512x512) off S1x512x512.size inb).toLoadRect X2 = kB X2 b :=
  read_k X2 b inb h

set_option backward.proofsInPublic true in
/-- Batch row `b` of the staged queries, keys and values, as the body loads them. -/
def rdQ (b : Fin 8) : Vec F S1x8x512 .bf16 :=
  View.readAt (Elt F) (Memref.whole cc0_stg0_0).view (Rect.unit (s := S8x8x512) ![b.val, 0, 0] S1x8x512.size
    (by have := b.isLt; intro a; match a with | 0 => show b.val + 1 ≤ 8; omega | 1 => exact Nat.le_refl _ | 2 => exact Nat.le_refl _)).toLoadRect X0
set_option backward.proofsInPublic true in
def rdK (b : Fin 8) : Vec F S1x512x512 .bf16 :=
  View.readAt (Elt F) (Memref.whole cc0_stg1_0).view (Rect.unit (s := S8x512x512) ![b.val, 0, 0] S1x512x512.size
    (by have := b.isLt; intro a; match a with | 0 => show b.val + 1 ≤ 8; omega | 1 => exact Nat.le_refl _ | 2 => exact Nat.le_refl _)).toLoadRect X1
set_option backward.proofsInPublic true in
def rdV (b : Fin 8) : Vec F S1x512x512 .bf16 :=
  View.readAt (Elt F) (Memref.whole cc0_stg2_0).view (Rect.unit (s := S8x512x512) ![b.val, 0, 0] S1x512x512.size
    (by have := b.isLt; intro a; match a with | 0 => show b.val + 1 ≤ 8; omega | 1 => exact Nat.le_refl _ | 2 => exact Nat.le_refl _)).toLoadRect X2

omit [FloatOps F] in
/-- They are the batch rows. -/
theorem rdQ_eq (b : Fin 8) : rdQ X0 b = qB X0 b := read_q X0 b _ rfl
omit [FloatOps F] in
theorem rdK_eq (b : Fin 8) : rdK X1 b = kB X1 b := read_k X1 b _ rfl
omit [FloatOps F] in
theorem rdV_eq (b : Fin 8) : rdV X2 b = kB X2 b := read_v X2 b _ rfl

/-- A stored piece that agrees with the packed block. -/
def Fits (p : View.Piece (Elt F) S64x128 .f32) : Prop := ∀ x, p.2 x = pack X0 X1 X2 (p.1.emb x)

/-- The weighted sums of batch row `b`, stored at its rows. -/
theorem fits_o (b : Fin 8) {off : Fin 2 → ℕ} {inb : ∀ a, off a + S8x64.size a ≤ S64x128.size a} {w : S8x64.Idx → Elt F .f32}
    (h : off = ![8 * b.val, 0]) (hw : w = oOf (rdQ X0 b) (rdK X1 b) (rdV X2 b)) :
    Fits X0 X1 X2 ⟨Rect.unit (s := S64x128) off S8x64.size inb, w⟩ := by
  rw [rdQ_eq, rdK_eq, rdV_eq] at hw
  subst h hw
  intro x
  have hx0 : (x 0).val < 8 := (x 0).isLt
  have hx1 : (x 1).val < 64 := (x 1).isLt
  have e0 : (((Rect.unit (s := S64x128) ![8 * b.val, 0] S8x64.size inb).emb x) 0).val = 8 * b.val + (x 0).val := by
    show 8 * b.val + 1 * (x 0).val = _; omega
  have e1 : (((Rect.unit (s := S64x128) ![8 * b.val, 0] S8x64.size inb).emb x) 1).val = (x 1).val := by
    show 0 + 1 * (x 1).val = _; omega
  generalize (Rect.unit (s := S64x128) ![8 * b.val, 0] S8x64.size inb).emb x = y at e0 e1 ⊢
  unfold pack
  have hb : rowB (y 0) = b := Fin.ext (show (y 0).val / 8 = b.val by omega)
  rw [dif_pos (by omega), hb]
  refine congrArg _ (funext fun a => Fin.ext ?_)
  match a with
  | 0 => show (x 0).val = (y 0).val % 8; omega
  | 1 => exact e1.symm

/-- The maxima of batch row `b`, stored in lane 64. -/
theorem fits_m (b : Fin 8) {off : Fin 2 → ℕ} {inb : ∀ a, off a + S8x1.size a ≤ S64x128.size a} {w : S8x1.Idx → Elt F .f32}
    (h : off = ![8 * b.val, 64]) (hw : w = mOf (rdQ X0 b) (rdK X1 b)) :
    Fits X0 X1 X2 ⟨Rect.unit (s := S64x128) off S8x1.size inb, w⟩ := by
  rw [rdQ_eq, rdK_eq] at hw
  subst h hw
  intro x
  have hx0 : (x 0).val < 8 := (x 0).isLt
  have hx1 : (x 1).val < 1 := (x 1).isLt
  have e0 : (((Rect.unit (s := S64x128) ![8 * b.val, 64] S8x1.size inb).emb x) 0).val = 8 * b.val + (x 0).val := by
    show 8 * b.val + 1 * (x 0).val = _; omega
  have e1 : (((Rect.unit (s := S64x128) ![8 * b.val, 64] S8x1.size inb).emb x) 1).val = 64 := by
    show 64 + 1 * (x 1).val = _; omega
  generalize (Rect.unit (s := S64x128) ![8 * b.val, 64] S8x1.size inb).emb x = y at e0 e1 ⊢
  unfold pack
  have hb : rowB (y 0) = b := Fin.ext (show (y 0).val / 8 = b.val by omega)
  rw [dif_neg (by omega), if_pos e1, hb]
  refine congrArg _ (funext fun a => Fin.ext ?_)
  match a with
  | 0 => show (x 0).val = (y 0).val % 8; omega
  | 1 => show (x 1).val = 0; omega

/-- The sums of exponentials of batch row `b`, stored in lane 65. -/
theorem fits_l (b : Fin 8) {off : Fin 2 → ℕ} {inb : ∀ a, off a + S8x1.size a ≤ S64x128.size a} {w : S8x1.Idx → Elt F .f32}
    (h : off = ![8 * b.val, 65]) (hw : w = lOf (rdQ X0 b) (rdK X1 b)) :
    Fits X0 X1 X2 ⟨Rect.unit (s := S64x128) off S8x1.size inb, w⟩ := by
  rw [rdQ_eq, rdK_eq] at hw
  subst h hw
  intro x
  have hx0 : (x 0).val < 8 := (x 0).isLt
  have hx1 : (x 1).val < 1 := (x 1).isLt
  have e0 : (((Rect.unit (s := S64x128) ![8 * b.val, 65] S8x1.size inb).emb x) 0).val = 8 * b.val + (x 0).val := by
    show 8 * b.val + 1 * (x 0).val = _; omega
  have e1 : (((Rect.unit (s := S64x128) ![8 * b.val, 65] S8x1.size inb).emb x) 1).val = 65 := by
    show 65 + 1 * (x 1).val = _; omega
  generalize (Rect.unit (s := S64x128) ![8 * b.val, 65] S8x1.size inb).emb x = y at e0 e1 ⊢
  unfold pack
  have hb : rowB (y 0) = b := Fin.ext (show (y 0).val / 8 = b.val by omega)
  rw [dif_neg (by omega), if_neg (by omega), hb]
  refine congrArg _ (funext fun a => Fin.ext ?_)
  match a with
  | 0 => show (x 0).val = (y 0).val % 8; omega
  | 1 => show (x 1).val = 0; omega

/-- The rectangles the three stores of batch row `b` write. -/
def Covers (L : List (View.Piece (Elt F) S64x128 .f32)) (b n o : ℕ) : Prop :=
  ∃ p ∈ L, ∀ i : S64x128.Idx, 8 * b ≤ (i 0).val → (i 0).val < 8 * b + 8 → o ≤ (i 1).val → (i 1).val < o + n → i ∈ p.1.set

omit [FloatOps F] in
/-- The store at the head of the list covers its rows and lanes. -/
theorem covers_here {b n o : ℕ} {off size : Fin 2 → ℕ} {inb : ∀ a, off a + size a ≤ S64x128.size a}
    {w : (Rect.unit (s := S64x128) off size inb).shape.Idx → Elt F .f32} {L : List (View.Piece (Elt F) S64x128 .f32)}
    (h0 : off 0 = 8 * b) (h1 : off 1 = o) (z0 : size 0 = 8) (z1 : size 1 = n) :
    Covers (F := F) (⟨Rect.unit (s := S64x128) off size inb, w⟩ :: L) b n o :=
  ⟨_, List.mem_cons_self, fun i a1 a2 a3 a4 => (Rect.mem_set_unit (s := S64x128) (inb := inb)).mpr fun a => match a with
    | 0 => ⟨by rw [h0]; exact a1, by rw [h0, z0]; exact a2⟩
    | 1 => ⟨by rw [h1]; exact a3, by rw [h1, z1]; exact a4⟩⟩

omit [FloatOps F] in
/-- What the rest of the list covers, the whole list covers. -/
theorem covers_later {b n o : ℕ} {p : View.Piece (Elt F) S64x128 .f32} {L : List (View.Piece (Elt F) S64x128 .f32)}
    (h : Covers (F := F) L b n o) : Covers (F := F) (p :: L) b n o :=
  let ⟨q, hq, hi⟩ := h
  ⟨q, List.mem_cons_of_mem _ hq, hi⟩

/-- After stores that fit, an element some store covers holds the packed block's value. -/
theorem read_fits (fm : S64x128.Idx → Elt F .f32) (i : S64x128.Idx) : ∀ L : List (View.Piece (Elt F) S64x128 .f32),
    (∀ p ∈ L, Fits X0 X1 X2 p) → (∃ p ∈ L, i ∈ p.1.set) →
      (Memref.whole cc0_scratch0).view.read (Elt F) ((Memref.whole cc0_scratch0).view.writes (Elt F) fm L) i = pack X0 X1 X2 i
  | [], _, h => by obtain ⟨_, hm, _⟩ := h; exact absurd hm List.not_mem_nil
  | p :: L, hP, h => by
    by_cases hy : i ∈ p.1.set
    · obtain ⟨x, rfl⟩ : ∃ x, p.1.emb x = i := p.1.exists_idx_of_mem hy
      exact (View.read_writes_cons_emb (Memref.whole cc0_scratch0).view fm p.1 p.2 L x).trans (hP p List.mem_cons_self x)
    · have hy' : i ∉ Finset.univ.map p.1.emb := by rwa [Rect.map_emb_univ]
      rw [View.writes_cons, View.read_slice_write_of_not_mem p.1 _ _ _ hy']
      obtain ⟨q, hq, hyq⟩ := h
      refine read_fits fm i L (fun q hq => hP q (List.mem_cons_of_mem _ hq)) ⟨q, ?_, hyq⟩
      rcases List.mem_cons.mp hq with rfl | hq'
      · exact absurd hyq hy
      · exact hq'

/-- Stores that fit and cover the first 66 lanes leave the packed block there. -/
theorem agree_of_fits (fm : S64x128.Idx → Elt F .f32) (L : List (View.Piece (Elt F) S64x128 .f32)) (hL : ∀ p ∈ L, Fits X0 X1 X2 p)
    (hO : ∀ b : Fin 8, Covers (F := F) L b.val 64 0) (hm : ∀ b : Fin 8, Covers (F := F) L b.val 1 64) (hl : ∀ b : Fin 8, Covers (F := F) L b.val 1 65) :
    Agree (F := F) ((Memref.whole cc0_scratch0).view.writes (Elt F) fm L) (pack X0 X1 X2) := by
  intro i hi
  have hcov : ∃ p ∈ L, i ∈ p.1.set := by
    have hr : (i 0).val < 64 := (i 0).isLt
    have pick : ∀ n o : ℕ, Covers (F := F) L (rowB (i 0)).val n o → o ≤ (i 1).val → (i 1).val < o + n → ∃ p ∈ L, i ∈ p.1.set :=
      fun n o ⟨p, hp, hs⟩ a b => ⟨p, hp, hs i (by show 8 * ((i 0).val / 8) ≤ _; omega) (by show _ < 8 * ((i 0).val / 8) + 8; omega) a b⟩
    by_cases h1 : (i 1).val < 64
    · exact pick 64 0 (hO _) (Nat.zero_le _) (by omega)
    by_cases h2 : (i 1).val = 64
    · exact pick 1 64 (hm _) (by omega) (by omega)
    · exact pick 1 65 (hl _) (by omega) (by omega)
  obtain ⟨p, hp, hip⟩ := hcov
  exact read_fits X0 X1 X2 fm i L hL ⟨p, hp, hip⟩

/-! ## What the combination loads -/

section Loads

omit [FloatOps F]

/-- A load of lane `a` of the packed block. -/
theorem read_lane (a : Fin 128) (g : S64x128.Idx → Elt F .f32) (inb : ∀ b, (![0, a.val] : Fin 2 → ℕ) b + S64x1.size b ≤ S64x128.size b) :
    View.readAt (Elt F) (Memref.whole cc0_scratch0).view (Rect.unit (s := S64x128) ![0, a.val] S64x1.size inb).toLoadRect g = lane a g := by
  funext i
  refine congrArg g (funext fun b => Fin.ext ?_)
  match b with
  | 0 => show 0 + 1 * (i 0).val = (i 0).val; omega
  | 1 => show a.val + 1 * (i 1).val = a.val; have : (i 1).val < 1 := (i 1).isLt; omega

/-- A load of lanes 0 to 63 of the packed block. -/
theorem read_wide (g : S64x128.Idx → Elt F .f32) (inb : ∀ b, (![0, 0] : Fin 2 → ℕ) b + S64x64.size b ≤ S64x128.size b) :
    View.readAt (Elt F) (Memref.whole cc0_scratch0).view (Rect.unit (s := S64x128) ![0, 0] S64x64.size inb).toLoadRect g = wide g := by
  funext i
  refine congrArg g (funext fun b => Fin.ext ?_)
  match b with
  | 0 => show 0 + 1 * (i 0).val = (i 0).val; omega
  | 1 => show 0 + 1 * (i 1).val = (i 1).val; omega

/-- A load of lane `a` of a slot. -/
theorem read_lane' (k : Fin 3) (a : Fin 128) (h : S3x64x128.Idx → Elt F .f32)
    (inb : ∀ b, (![k.val, 0, a.val] : Fin 3 → ℕ) b + S1x64x1.size b ≤ S3x64x128.size b) :
    View.readAt (Elt F) (Memref.whole cc0_scratch1).view (Rect.unit (s := S3x64x128) ![k.val, 0, a.val] S1x64x1.size inb).toLoadRect h
      = lane' a (slotOf k h) := by
  funext i
  refine congrArg h (funext fun b => Fin.ext ?_)
  match b with
  | 0 => show k.val + 1 * (i 0).val = k.val; have : (i 0).val < 1 := (i 0).isLt; omega
  | 1 => show 0 + 1 * (i 1).val = (i 1).val; omega
  | 2 => show a.val + 1 * (i 2).val = a.val; have : (i 2).val < 1 := (i 2).isLt; omega

/-- A load of lanes 0 to 63 of a slot. -/
theorem read_wide' (k : Fin 3) (h : S3x64x128.Idx → Elt F .f32)
    (inb : ∀ b, (![k.val, 0, 0] : Fin 3 → ℕ) b + S1x64x64.size b ≤ S3x64x128.size b) :
    View.readAt (Elt F) (Memref.whole cc0_scratch1).view (Rect.unit (s := S3x64x128) ![k.val, 0, 0] S1x64x64.size inb).toLoadRect h
      = wide' (slotOf k h) := by
  funext i
  refine congrArg h (funext fun b => Fin.ext ?_)
  match b with
  | 0 => show k.val + 1 * (i 0).val = k.val; have : (i 0).val < 1 := (i 0).isLt; omega
  | 1 => show 0 + 1 * (i 1).val = (i 1).val; omega
  | 2 => show 0 + 1 * (i 2).val = (i 2).val; omega

end Loads

/-- The combination, of what the body loads from the two buffers. -/
theorem outOf_loads (f : S64x128.Idx → Elt F .f32) (h : S3x64x128.Idx → Elt F .f32) :
    outOf f (slotOf 0 h) (slotOf 1 h) (slotOf 2 h)
      = (let ml := View.readAt (Elt F) (Memref.whole cc0_scratch0).view (Rect.unit (s := S64x128) ![0, 64] S64x1.size inb_S64x128_S64x1_0_64).toLoadRect f
         let ll := View.readAt (Elt F) (Memref.whole cc0_scratch0).view (Rect.unit (s := S64x128) ![0, 65] S64x1.size inb_S64x128_S64x1_0_65).toLoadRect f
         let wl := View.readAt (Elt F) (Memref.whole cc0_scratch0).view (Rect.unit (s := S64x128) ![0, 0] S64x64.size inb_S64x128_S64x64_0_0).toLoadRect f
         let m0 := View.readAt (Elt F) (Memref.whole cc0_scratch1).view (Rect.unit (s := S3x64x128) ![0, 0, 64] S1x64x1.size inb_S3x64x128_S1x64x1_0_0_64).toLoadRect h
         let m1 := View.readAt (Elt F) (Memref.whole cc0_scratch1).view (Rect.unit (s := S3x64x128) ![1, 0, 64] S1x64x1.size inb_S3x64x128_S1x64x1_1_0_64).toLoadRect h
         let m2 := View.readAt (Elt F) (Memref.whole cc0_scratch1).view (Rect.unit (s := S3x64x128) ![2, 0, 64] S1x64x1.size inb_S3x64x128_S1x64x1_2_0_64).toLoadRect h
         let l0 := View.readAt (Elt F) (Memref.whole cc0_scratch1).view (Rect.unit (s := S3x64x128) ![0, 0, 65] S1x64x1.size inb_S3x64x128_S1x64x1_0_0_65).toLoadRect h
         let l1 := View.readAt (Elt F) (Memref.whole cc0_scratch1).view (Rect.unit (s := S3x64x128) ![1, 0, 65] S1x64x1.size inb_S3x64x128_S1x64x1_1_0_65).toLoadRect h
         let l2 := View.readAt (Elt F) (Memref.whole cc0_scratch1).view (Rect.unit (s := S3x64x128) ![2, 0, 65] S1x64x1.size inb_S3x64x128_S1x64x1_2_0_65).toLoadRect h
         let w0 := View.readAt (Elt F) (Memref.whole cc0_scratch1).view (Rect.unit (s := S3x64x128) ![0, 0, 0] S1x64x64.size inb_S3x64x128_S1x64x64_0_0_0).toLoadRect h
         let w1 := View.readAt (Elt F) (Memref.whole cc0_scratch1).view (Rect.unit (s := S3x64x128) ![1, 0, 0] S1x64x64.size inb_S3x64x128_S1x64x64_1_0_0).toLoadRect h
         let w2 := View.readAt (Elt F) (Memref.whole cc0_scratch1).view (Rect.unit (s := S3x64x128) ![2, 0, 0] S1x64x64.size inb_S3x64x128_S1x64x64_2_0_0).toLoadRect h
         k0_pay1 (k0_pay77 ml (k0_pay70 m0) (k0_pay71 m1) m2) (k0_pay78 ml (k0_pay70 m0) (k0_pay71 m1) m2 ll l0 l1 l2)
           (k0_pay79 ml (k0_pay70 m0) (k0_pay71 m1) m2 wl w0) (k0_pay80 w1) (k0_pay81 ml (k0_pay70 m0) (k0_pay71 m1) m2) w2) := by
  dsimp only
  unfold outOf
  rw [← read_lane 64 f inb_S64x128_S64x1_0_64, ← read_lane 65 f inb_S64x128_S64x1_0_65, ← read_wide f inb_S64x128_S64x64_0_0,
    ← read_lane' 0 64 h inb_S3x64x128_S1x64x1_0_0_64, ← read_lane' 1 64 h inb_S3x64x128_S1x64x1_1_0_64, ← read_lane' 2 64 h inb_S3x64x128_S1x64x1_2_0_64,
    ← read_lane' 0 65 h inb_S3x64x128_S1x64x1_0_0_65, ← read_lane' 1 65 h inb_S3x64x128_S1x64x1_1_0_65, ← read_lane' 2 65 h inb_S3x64x128_S1x64x1_2_0_65,
    ← read_wide' 0 h inb_S3x64x128_S1x64x64_0_0_0, ← read_wide' 1 h inb_S3x64x128_S1x64x64_1_0_0, ← read_wide' 2 h inb_S3x64x128_S1x64x64_2_0_0]
  rfl

end Cert.KernelIdeal.Decode

end
-- ==== Proof.Steps.lean ====
/-
# The steps of the body: buffers split and joined, the signal, the transfer, the wait
-/
module

public import proofs.«01_k».proof.Proof.Packing

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (M : Dev nD → S64x128.Idx → Elt F .f32)
variable (X0 : S8x8x512.Idx → Elt F .bf16) (X1 X2 : S8x512x512.Idx → Elt F .bf16)

/-- A whole VMEM buffer of device `c` at contents `f`. -/
abbrev at_ (c : Dev nD) (b : Ref sig .tc) (f : b.ty.Contents (Elt F)) : sProp 𝕄 :=
  (Memref.whole b).view.loc (c : Thread nD τ) ↦[Finset.univ]{fullShare} f

/-- What the body starts from. -/
def bodyPre (K : GSem nD τ sig → ℕ) (c : Dev nD) (W : Waits sig Unit) : sProp 𝕄 :=
  iprop(opened M K c ∗ creds (F := F) c ∗ levAts L lv
    ∗ (∃ f, at_ (F := F) c cc0_scratch0 f) ∗ (∃ f, at_ (F := F) c cc0_scratch1 f)
    ∗ at_ c cc0_stg0_0 X0 ∗ at_ c cc0_stg1_0 X1 ∗ at_ c cc0_stg2_0 X2 ∗ (∃ f, at_ (F := F) c cc0_stg3_0 f)
    ∗ owes (c : Thread nD τ) (O₀ c) W)

/-- What it leaves: every counter back at zero, the inputs as they were, the result. -/
def bodyPost (c : Dev nD) : sProp 𝕄 :=
  iprop(semVal (barCell c) 0 ∗ (three fun k => semVal (sendCell c k) 0) ∗ (three fun k => semVal (recvCell c k) 0)
    ∗ (∃ f, at_ (F := F) c cc0_scratch0 f) ∗ (∃ f, at_ (F := F) c cc0_scratch1 f)
    ∗ at_ c cc0_stg0_0 X0 ∗ at_ c cc0_stg1_0 X1 ∗ at_ c cc0_stg2_0 X2
    ∗ at_ c cc0_stg3_0 (outOf (M c) (M (fr c 0)) (M (fr c 1)) (M (fr c 2)))
    ∗ ∃ W, owes (c : Thread nD τ) (0 : CellTallies nD τ sig Unit) W)

omit [FloatOps F] in
theorem comm_eq (c : Dev nD) (f : S3x64x128.Idx → Elt F .f32) :
    (at_ (F := F) c cc0_scratch1 f : sProp 𝕄)
      = (((c : Thread nD τ).loc cc0_scratch1) ↦[slotSet 0 ∪ (slotSet 1 ∪ slotSet 2)]{fullShare} f) := by
  show (((c : Thread nD τ).loc cc0_scratch1) ↦[Finset.univ]{fullShare} f : sProp 𝕄) = _
  exact congrArg (fun S => (((c : Thread nD τ).loc cc0_scratch1) ↦[S]{fullShare} f : sProp 𝕄)) slot_union.symm

omit [FloatOps F] in
/-- The landing buffer is its three slots. -/
theorem comm_split (c : Dev nD) (f : S3x64x128.Idx → Elt F .f32) :
    (at_ (F := F) c cc0_scratch1 f : sProp 𝕄) ⊢ three fun k => slotPts (F := F) c k f := by
  refine (Entails.of_eq (comm_eq c f)).trans ?_
  unfold slotPts
  refine (pointsTo_union (Finset.disjoint_union_right.mpr ⟨slot_disjoint (by decide), slot_disjoint (by decide)⟩)).1.trans ?_
  exact sep_mono_right (pointsTo_union (slot_disjoint (by decide))).1

/-- The landing buffer whose slot `k` reads as slot `k` of `f k`. -/
def stitch (f : Fin 3 → S3x64x128.Idx → Elt F .f32) : S3x64x128.Idx → Elt F .f32 :=
  fun i => f ⟨(i 0).val, (i 0).isLt⟩ i

omit [FloatOps F] in
theorem stitch_slot (f : Fin 3 → S3x64x128.Idx → Elt F .f32) (k : Fin 3) : slotOf k (stitch f) = slotOf k (f k) := rfl

omit [FloatOps F] in
/-- A slot at its own contents is that slot of the stitched buffer. -/
theorem slot_stitch (c : Dev nD) (f : Fin 3 → S3x64x128.Idx → Elt F .f32) (k : Fin 3) :
    (slotPts (F := F) c k (f k) : sProp 𝕄) = slotPts (F := F) c k (stitch f) := by
  unfold slotPts
  refine pointsTo_congr fun i hi => ?_
  have h := (Finset.mem_filter.mp hi).2
  unfold stitch
  rw [show (⟨(i 0).val, (i 0).isLt⟩ : Fin 3) = k from Fin.ext h]

omit [FloatOps F] in
/-- The three slots, each at its own contents, are the landing buffer. -/
theorem comm_join (c : Dev nD) (f : Fin 3 → S3x64x128.Idx → Elt F .f32) :
    iprop(slotPts (F := F) c 0 (f 0) ∗ slotPts (F := F) c 1 (f 1) ∗ slotPts (F := F) c 2 (f 2)) ⊢ (at_ (F := F) c cc0_scratch1 (stitch f) : sProp 𝕄) := by
  rw [slot_stitch c f 0, slot_stitch c f 1, slot_stitch c f 2]
  refine BIBase.Entails.trans ?_ (Entails.of_eq (comm_eq c (stitch f)).symm)
  unfold slotPts
  refine BIBase.Entails.trans ?_ (pointsTo_union (Finset.disjoint_union_right.mpr ⟨slot_disjoint (by decide), slot_disjoint (by decide)⟩)).2
  exact sep_mono_right (pointsTo_union (slot_disjoint (by decide))).2

omit [FloatOps F] in
/-- The packed block in four shares: one for each transfer, one kept. -/
theorem mine_split (c : Dev nD) (f : S64x128.Idx → Elt F .f32) :
    (at_ (F := F) c cc0_scratch0 f : sProp 𝕄)
      ⊢ iprop(minePts (F := F) c (lent 2) f ∗ minePts (F := F) c (lent 1) f ∗ minePts (F := F) c (lent 0) f ∗ minePts (F := F) c kept f) :=
  (pointsTo_share (PosShare.mem_left_op_right _)).1.trans
    (sep_mono_right ((pointsTo_share (PosShare.mem_left_op_right _)).1.trans
      (sep_mono_right (pointsTo_share (PosShare.mem_left_op_right _)).1)))

omit [FloatOps F] in
/-- Two shares of the packed block held at once show the same contents. -/
theorem mine_rejoin (c : Dev nD) {q q₁ q₂ : PosShare TreeShare} (h : q ∈ PCS.op q₁ q₂) (f f' : S64x128.Idx → Elt F .f32) :
    iprop(minePts (F := F) c q₁ f' ∗ minePts (F := F) c q₂ f) ⊢ (minePts (F := F) c q f : sProp 𝕄) := by
  iintro ⟨H1, H2⟩
  ihave %hag := (pointsTo_agree (ℓ := (c : Thread nD τ).loc cc0_scratch0) (I := Finset.univ) (J := Finset.univ) (q₁ := q₁) (q₂ := q₂) (f := f') (g := f)) $$ [H1 H2]
  · unfold minePts; isplitl [H1] <;> iassumption
  have e : f' = f := funext fun i => (hag i (by rw [Finset.inter_self]; exact Finset.mem_univ i)).1
  subst e
  unfold minePts
  iapply (pointsTo_share h).2
  isplitl [H1] <;> iassumption

/-- A signal to a device that fills this device's slot `k`: that slot goes with it. -/
theorem wp_sig (K : GSem nD τ sig → ℕ) (c n : Dev nD) (k : Fin 3) (hn : n = fr c k) (O : CellTallies nD τ sig Unit) (W : Waits sig Unit)
    {α : Type} {Q : α → sProp 𝕄} {kk : PUnit → Prog (TpuEff nD τ sig (Elt F) Λ₀ .tc) α} {f : S3x64x128.Idx → Elt F .f32} :
    iprop(cellInv ER (rd M) (K (barCell (fr c k))) (barCell (fr c k)) ∗ owes (c : Thread nD τ) (O + tallyAt (barCell (fr c k)) () 1) W
        ∗ dutyTok ER (barCell (fr c k)) 0 k ∗ slotPts (F := F) c k f ∗ reached ER (recvCell c k) 0 ∗ reached ER (barCell (fr c k)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) barS 1) kk) Q) := by
  subst hn
  iintro ⟨#HI, HO, Ht, Hs, #Hr, #Hb⟩ Hk
  iapply (Rounds.wp_signal 𝒱₀ ER (rd M) (c : Thread nD τ) none (dst := (fr c k : Thread nD τ)) (κ := K (barCell (fr c k)))
      (d := k) (by rw [duties_bar]; exact Finset.mem_univ _) (amount_bar M (fr c k) k) () O rfl)
    $$ [HO Ht Hs]
  · isplitr; · iexact HI
    isplitl [HO]; · iexact HO
    isplitl [Ht]; · iexact Ht
    isplitl [Hs]
    · rw [payload_bar]; unfold barPay; rw [dest_fr]
      isplitl [Hs]; · iexists f; iexact Hs
      iexact Hr
    · iexact Hb
  iexact Hk

/-- The transfer of the packed block into slot `k` of the device it is for: the share lent goes, a credit to wait with comes. -/
theorem wp_snd (K : GSem nD τ sig → ℕ) (c n : Dev nD) (k : Fin 3) (hn : n = dest c k) (ss rs : DmaSem sig) (hs : ss = sS k) (hr : rs = rS k)
    {off : Fin 3 → ℕ} {inb : ∀ a, off a + S1x64x128.size a ≤ S3x64x128.size a} (h : off = ![k.val, 0, 0])
    {hsc : ((commM.slice (Rect.unit (s := S3x64x128) off S1x64x128.size inb) (fun _ => rfl)).squeeze S64x128 squeezes_S1x64x128_S64x128 :
      Memref sig (Dev.tc n : Thread nD τ).2.kind .vmem S64x128 .f32).view.ref.isScScratch = false}
    {hsrc : (mineM : Memref sig .tc .vmem S64x128 .f32).view.WordExact}
    {hdst : ((commM.slice (Rect.unit (s := S3x64x128) off S1x64x128.size inb) (fun _ => rfl)).squeeze S64x128 squeezes_S1x64x128_S64x128 :
      Memref sig .tc .vmem S64x128 .f32).view.WordExact}
    {hsem : DmaTarget.Typed .vmem (.dma rs) (.remote (Dev.tc n : Thread nD τ)
      ((commM.slice (Rect.unit (s := S3x64x128) off S1x64x128.size inb) (fun _ => rfl)).squeeze S64x128 squeezes_S1x64x128_S64x128 :
        Memref sig .tc .vmem S64x128 .f32) (.dma ss) hsc)}
    {α : Type} {Q : α → sProp 𝕄} {kk : PUnit → Prog (TpuEff nD τ sig (Elt F) Λ₀ .tc) α}
    (O : CellTallies nD τ sig Unit) (W : Waits sig Unit) (f : S64x128.Idx → Elt F .f32) (hf : Agree f (M c)) (g : S3x64x128.Idx → Elt F .f32) :
    iprop(cellInv ER (rd M) (K (sendCell c k)) (sendCell c k) ∗ cellInv ER (rd M) (K (recvCell (dest c k) k)) (recvCell (dest c k) k)
        ∗ minePts (F := F) c (lent k) f ∗ slotPts (F := F) (dest c k) k g ∗ owes (c : Thread nD τ) (O + tallyAt (recvCell (dest c k) k) () N) W
        ∗ dutyTok ER (sendCell c k) 0 (0 : Fin 3) ∗ reached ER (sendCell c k) 0
        ∗ dutyTok ER (recvCell (dest c k) k) 0 (0 : Fin 3) ∗ reached ER (recvCell (dest c k) k) 0)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma mineM (.remote (Dev.tc n : Thread nD τ)
                ((commM.slice (Rect.unit (s := S3x64x128) off S1x64x128.size inb) (fun _ => rfl)).squeeze S64x128 squeezes_S1x64x128_S64x128)
                (.dma ss) hsc) (.dma rs) hsrc hdst hsem) kk) Q) := by
  subst hn hs hr h
  have hset : ((commM.slice (Rect.unit (s := S3x64x128) ![k.val, 0, 0] S1x64x128.size inb) (fun _ => rfl)).squeeze S64x128 squeezes_S1x64x128_S64x128 :
      Memref sig .tc .vmem S64x128 .f32).view.set = slotSet k :=
    (View.set_reshape _ _).trans (window_set k (off := ![k.val, 0, 0]) rfl rfl rfl inb)
  have hread : ∀ f', ((commM.slice (Rect.unit (s := S3x64x128) ![k.val, 0, 0] S1x64x128.size inb) (fun _ => rfl)).squeeze S64x128 squeezes_S1x64x128_S64x128 :
      Memref sig .tc .vmem S64x128 .f32).view.read (Elt F) f' = slotOf k f' := fun f' =>
    (Memref.read_squeeze_slice commM _ _ _ casts_slot f').trans (window_read k (off := ![k.val, 0, 0]) rfl rfl rfl inb f')
  have hmine : (minePts (F := F) c (lent k) f : sProp 𝕄) = ((mineM.view.loc (c : Thread nD τ)) ↦[mineM.view.set]{lent k} f) := by
    rw [View.set_whole]; rfl
  have X := Rounds.wp_send_pointsTo (defs := defs₀ (F := F)) (Γ := .empty) 𝒱₀ ER (rd M) (c : Thread nD τ) none (κ₁ := K (sendCell c k)) (κ₂ := K (recvCell (dest c k) k))
    (r₁ := 0) (r₂ := 0) (d₁ := (0 : Fin 3)) (d₂ := (0 : Fin 3)) (src := mineM) (dst := ((commM.slice (Rect.unit (s := S3x64x128) ![k.val, 0, 0] S1x64x128.size inb) (fun _ => rfl)).squeeze S64x128 squeezes_S1x64x128_S64x128))
    (fs := f) (fd := g) (c' := (dest c k : Thread nD τ)) (q := lent k)
    (sS := .dma (sS k)) (sem := .dma (rS k)) (hsc := hsc) (hsrc := hsrc) (hdst := hdst) (hsem := hsem) (k := kk) (Q := Q) (Es := Set.univ)
    (by rw [duties_send]; exact Finset.mem_singleton_self _) (by rw [duties_recv]; exact Finset.mem_singleton_self _)
    () () N rfl (amount_dma M c 0 _) (amount_dma M (dest c k) 0 _) O rfl (W := W)
    (by rw [payload_send]; unfold sendPay; iintro H; iexists f; rw [hmine]; iexact H)
    (by
      rw [payload_recv]; unfold recvPay slotPts
      rw [fr_dest, hset]
      iintro H
      iexists _
      isplitr
      rotate_left
      · iexact H
      · ipureintro
        rw [← hread, View.read_write_univ]
        exact hf)
  refine BIBase.Entails.trans ?_ X
  rw [hmine]
  unfold slotPts
  rw [← hset]

/-- A wait for one whole round of a send or receive cell: its payload comes, and the cell is back at zero. -/
theorem wp_wt (K : GSem nD τ sig → ℕ) (c : Dev nD) (q' q : DmaSem sig) (hq : q' = q) (P : sProp 𝕄) (W : Waits sig Unit)
    (hexp : (rd M).expect ((c : Thread nD τ), .dma q) 0 = N)
    (hrest : bigSep ((rd (F := F) M).duties ((c : Thread nD τ), .dma q) 0 \ ∅) (fun u => (rd (F := F) M).payload ((c : Thread nD τ), .dma q) 0 u) = P)
    {src dst : Memref sig .tc .vmem S64x128 .f32} {hsrc : src.view.WordExact} {hdst : dst.view.WordExact} (hN : dst.view.dmaCredit = N)
    {α : Type} {Q : α → sProp 𝕄} {kk : PUnit → Prog (TpuEff nD τ sig (Elt F) Λ₀ .tc) α} :
    iprop(cellInv ER (rd M) (K ((c : Thread nD τ), .dma q)) ((c : Thread nD τ), .dma q) ∗ cred (tallyAt ((c : Thread nD τ), SemLoc.dma q) () N)
        ∗ owes (c : Thread nD τ) (0 : CellTallies nD τ sig Unit) W ∗ atPos ER ((c : Thread nD τ), .dma q) 0 (∅ : Finset (Fin 3)) 0)
      ⊢ iprop(((owes (c : Thread nD τ) (0 : CellTallies nD τ sig Unit) (insert (SemLoc.dma q, ()) W) ∗ semVal ((c : Thread nD τ), .dma q) 0 ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q' src dst hsrc hdst) kk) Q) := by
  obtain rfl := hq.symm
  iintro ⟨#HI, Hc, HO, Hat⟩ Hk
  iapply (Rounds.wp_wait_rest_token 𝒱₀ ER (rd M) (c : Thread nD τ) none (κ := K ((c : Thread nD τ), .dma q))
      (wpE_waitDma2_eq 𝒱₀ (c : Thread nD τ) none Set.univ) (Set.mem_univ _) () (O := 0) (W := W) (R := 0) (m := 0) (T := ∅)
      (by rw [Nat.zero_add, hN, hexp])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (close M _ _) $$ [Hat] with Hz
  · isplitr; · iexact HI
    iexact Hat
  iapply Hk
  isplitl [HO]; · iexact HO
  isplitl [Hz]; · iexact Hz
  iapply (Entails.of_eq hrest); iexact Hpay

end Cert.KernelIdeal.Decode

end
-- ==== Proof.Body.lean ====
/-
# The body on one device, from its staged inputs to the combined result
-/
module

public import proofs.«01_k».proof.Proof.Steps

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (M : Dev nD → S64x128.Idx → Elt F .f32)
variable (X0 : S8x8x512.Idx → Elt F .bf16) (X1 X2 : S8x512x512.Idx → Elt F .bf16)

set_option maxHeartbeats 4000000 in
/-- From what the body starts from, it runs to the end and leaves what `bodyPost` says. -/
theorem body_run (K : GSem nD τ sig → ℕ) (c : Dev nD) (W : Waits sig Unit) (Kt : PUnit → sProp 𝕄)
    (hM : Agree (pack X0 X1 X2) (M c)) :
    iprop(bodyPre M X0 X1 X2 K c W ∗ (bodyPost M X0 X1 X2 c -∗ Kt ⟨⟩))
      ⊢ wp frame (wpE (defs₀ (F := F)) 𝒱₀ c none) Set.univ (bodyAt0 (F := F) t0_0) Kt := by
  show _ ⊢ wp frame _ _ (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) mineM (Memref.isWhole_whole _) commM (Memref.isWhole_whole _) cc0_scratch2 cc0_scratch3) Kt
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, Prog.bind_assoc, wp_deviceId]
  unfold bodyPre opened invs payToks creds at_
  iintro ⟨⟨⟨⟨#HIb, ⟨#HIs0, #HIs1, #HIs2⟩, ⟨#HIr0, #HIr1, #HIr2⟩, ⟨#HIf0, #HIf1, #HIf2⟩, #HId0, #HId1, #HId2⟩, HatB,
      ⟨HatS0, HatS1, HatS2⟩, ⟨HatR0, HatR1, HatR2⟩, ⟨#HrS0, #HrS1, #HrS2⟩, ⟨#HrR0, #HrR1, #HrR2⟩, ⟨#HrF0, #HrF1, #HrF2⟩,
      ⟨HtF0, HtF1, HtF2⟩, ⟨HtD0, HtD1, HtD2⟩, HtS0, HtS1, HtS2⟩, ⟨HcB, HcR0, HcR1, HcR2⟩, #Hlev,
      ⟨%fm, Hm⟩, ⟨%fc, Hc⟩, Hx0, Hx1, Hx2, ⟨%fo, Ho⟩, HO⟩, Hk⟩
  ihave Hc3 := (comm_split c fc) $$ [Hc]; · iexact Hc
  icases Hc3 with ⟨Hc0, Hc1, Hc2⟩
  unfold O₀
  iapply (wp_sig M K c _ 0 (dev1_eq c) _ W (f := fc)) $$ [HO HtF0 Hc0]
  · isplitr; · iexact HIf0
    isplitl [HO]; · iexact HO
    isplitl [HtF0]; · iexact HtF0
    isplitl [Hc0]; · iexact Hc0
    isplitr; · iexact HrR0
    iexact HrF0
  iintro HO
  iapply (wp_sig M K c _ 1 (dev2_eq c) _ W (f := fc)) $$ [HO HtF1 Hc1]
  · isplitr; · iexact HIf1
    isplitl [HO]; · iexact HO
    isplitl [HtF1]; · iexact HtF1
    isplitl [Hc1]; · iexact Hc1
    isplitr; · iexact HrR1
    iexact HrF1
  iintro HO
  iapply (wp_sig M K c _ 2 (dev3_eq c) _ W (f := fc)) $$ [HO HtF2 Hc2]
  · isplitr; · iexact HIf2
    isplitl [HO]; · iexact HO
    isplitl [HtF2]; · iexact HtF2
    isplitl [Hc2]; · iexact Hc2
    isplitr; · iexact HrR2
    iexact HrF2
  iintro HO
  iapply (Rounds.wp_wait_rest_token 𝒱₀ ER (rd M) (c : Thread nD τ) none (κ := K (barCell c))
      (wpE_semWait_eq 𝒱₀ (c : Thread nD τ) none Set.univ) (Set.mem_univ _) () (O := Or c) (W := W) (R := 0) (m := 0) (T := ∅)
      ((Nat.zero_add _).trans (expect_bar M c).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar M c)) $$ Hpay
  unfold barPay
  icases Hp with ⟨⟨⟨%g0, Hd0⟩, #HrD0⟩, ⟨⟨%g1, Hd1⟩, #HrD1⟩, ⟨%g2, Hd2⟩, #HrD2⟩
  sl_exec_parts
  have hz : Agree (F := F) ((Memref.whole cc0_scratch0).view.writes (Elt F) fm (body_run.sl.Hm_24 X0 X1 X2)) (pack X0 X1 X2) := by
    refine agree_of_fits X0 X1 X2 fm _ ?_ ?_ ?_ ?_
    · refine List.forall_mem_cons.mpr ⟨fits_o X0 X1 X2 7 rfl rfl, ?_⟩
      refine List.forall_mem_cons.mpr ⟨fits_o X0 X1 X2 6 rfl rfl, ?_⟩
      refine List.forall_mem_cons.mpr ⟨fits_l X0 X1 X2 7 rfl rfl, ?_⟩
      refine List.forall_mem_cons.mpr ⟨fits_m X0 X1 X2 7 rfl rfl, ?_⟩
      refine List.forall_mem_cons.mpr ⟨fits_l X0 X1 X2 6 rfl rfl, ?_⟩
      refine List.forall_mem_cons.mpr ⟨fits_m X0 X1 X2 6 rfl rfl, ?_⟩
      refine List.forall_mem_cons.mpr ⟨fits_o X0 X1 X2 5 rfl rfl, ?_⟩
      refine List.forall_mem_cons.mpr ⟨fits_o X0 X1 X2 4 rfl rfl, ?_⟩
      refine List.forall_mem_cons.mpr ⟨fits_l X0 X1 X2 5 rfl rfl, ?_⟩
      refine List.forall_mem_cons.mpr ⟨fits_m X0 X1 X2 5 rfl rfl, ?_⟩
      refine List.forall_mem_cons.mpr ⟨fits_l X0 X1 X2 4 rfl rfl, ?_⟩
      refine List.forall_mem_cons.mpr ⟨fits_m X0 X1 X2 4 rfl rfl, ?_⟩
      refine List.forall_mem_cons.mpr ⟨fits_o X0 X1 X2 3 rfl rfl, ?_⟩
      refine List.forall_mem_cons.mpr ⟨fits_o X0 X1 X2 2 rfl rfl, ?_⟩
      refine List.forall_mem_cons.mpr ⟨fits_l X0 X1 X2 3 rfl rfl, ?_⟩
      refine List.forall_mem_cons.mpr ⟨fits_m X0 X1 X2 3 rfl rfl, ?_⟩
      refine List.forall_mem_cons.mpr ⟨fits_l X0 X1 X2 2 rfl rfl, ?_⟩
      refine List.forall_mem_cons.mpr ⟨fits_m X0 X1 X2 2 rfl rfl, ?_⟩
      refine List.forall_mem_cons.mpr ⟨fits_o X0 X1 X2 1 rfl rfl, ?_⟩
      refine List.forall_mem_cons.mpr ⟨fits_o X0 X1 X2 0 rfl rfl, ?_⟩
      refine List.forall_mem_cons.mpr ⟨fits_l X0 X1 X2 1 rfl rfl, ?_⟩
      refine List.forall_mem_cons.mpr ⟨fits_m X0 X1 X2 1 rfl rfl, ?_⟩
      refine List.forall_mem_cons.mpr ⟨fits_l X0 X1 X2 0 rfl rfl, ?_⟩
      refine List.forall_mem_cons.mpr ⟨fits_m X0 X1 X2 0 rfl rfl, ?_⟩
      exact List.forall_mem_nil _
    all_goals
      intro b
      match b with
      | 0 | 1 | 2 | 3 | 4 | 5 | 6 | 7 => repeat first | exact covers_here rfl rfl rfl rfl | apply covers_later
  generalize (Memref.whole cc0_scratch0).view.writes (Elt F) fm (body_run.sl.Hm_24 X0 X1 X2) = f at hz ⊢
  have hf : Agree f (M c) := fun i hi => (hz i hi).trans (hM i hi)
  ihave Hsh := (mine_split c f) $$ [Hm]; · iexact Hm
  icases Hsh with ⟨Hm2, Hm1, Hm0, Hmk⟩
  unfold Or
  iapply (wp_snd M K c _ 2 (dev4_eq c) _ _ send0 recv2 (off := ![2, 0, 0]) rfl _ _ f hf g2) $$ [Hm2 Hd2 HO HtS2 HtD2]
  · isplitr; · iexact HIs2
    isplitr; · iexact HId2
    isplitl [Hm2]; · iexact Hm2
    isplitl [Hd2]; · iexact Hd2
    isplitl [HO]; · iexact HO
    isplitl [HtS2]; · iexact HtS2
    isplitr; · iexact HrS2
    isplitl [HtD2]; · iexact HtD2
    iexact HrD2
  iintro ⟨HcS2, HO⟩
  simp only [Prog.lift, Prog.bind_op, Prog.bind_ret, Prog.pure_eq_ret]
  iapply (wp_snd M K c _ 1 (dev5_eq c) _ _ send1 recv1 (off := ![1, 0, 0]) rfl _ _ f hf g1) $$ [Hm1 Hd1 HO HtS1 HtD1]
  · isplitr; · iexact HIs1
    isplitr; · iexact HId1
    isplitl [Hm1]; · iexact Hm1
    isplitl [Hd1]; · iexact Hd1
    isplitl [HO]; · iexact HO
    isplitl [HtS1]; · iexact HtS1
    isplitr; · iexact HrS1
    isplitl [HtD1]; · iexact HtD1
    iexact HrD1
  iintro ⟨HcS1, HO⟩
  rw [wp_ret]; imodintro
  simp only [k0_part17_eq_skeleton, k0_part18_eq_skeleton]; unfold k0_part17_skel k0_part18_skel
  simp only [Prog.lift, Prog.bind_op, Prog.bind_ret, Prog.pure_eq_ret, Prog.bind_assoc]
  iapply (wp_snd M K c _ 0 (dev6_eq c) _ _ send2 recv0 (off := ![0, 0, 0]) rfl _ _ f hf g0) $$ [Hm0 Hd0 HO HtS0 HtD0]
  · isplitr; · iexact HIs0
    isplitr; · iexact HId0
    isplitl [Hm0]; · iexact Hm0
    isplitl [Hd0]; · iexact Hd0
    isplitl [HO]; · iexact HO
    isplitl [HtS0]; · iexact HtS0
    isplitr; · iexact HrS0
    isplitl [HtD0]; · iexact HtD0
    iexact HrD0
  iintro ⟨HcS0, HO⟩
  iapply (wp_wt M K c _ (sS 2) send0 (sendPay (F := F) c 2) _ (expect_send M c 2) (rest_send M c 2) rfl) $$ [HcS2 HO HatS2]
  · isplitr; · iexact HIs2
    isplitl [HcS2]; · iexact HcS2
    isplitl [HO]; · iexact HO
    iexact HatS2
  iintro ⟨HO, HzS2, HpS2⟩
  iapply (wp_wt M K c _ (rS 2) recv2 (recvPay M c 2) _ (expect_recv M c 2) (rest_recv M c 2) (dst := slot2) rfl) $$ [HcR2 HO HatR2]
  · isplitr; · iexact HIr2
    isplitl [HcR2]; · iexact HcR2
    isplitl [HO]; · iexact HO
    iexact HatR2
  iintro ⟨HO, HzR2, HpR2⟩
  iapply (wp_wt M K c _ (sS 1) send1 (sendPay (F := F) c 1) _ (expect_send M c 1) (rest_send M c 1) rfl) $$ [HcS1 HO HatS1]
  · isplitr; · iexact HIs1
    isplitl [HcS1]; · iexact HcS1
    isplitl [HO]; · iexact HO
    iexact HatS1
  iintro ⟨HO, HzS1, HpS1⟩
  iapply (wp_wt M K c _ (rS 1) recv1 (recvPay M c 1) _ (expect_recv M c 1) (rest_recv M c 1) (dst := slot1) rfl) $$ [HcR1 HO HatR1]
  · isplitr; · iexact HIr1
    isplitl [HcR1]; · iexact HcR1
    isplitl [HO]; · iexact HO
    iexact HatR1
  iintro ⟨HO, HzR1, HpR1⟩
  iapply (wp_wt M K c _ (sS 0) send2 (sendPay (F := F) c 0) _ (expect_send M c 0) (rest_send M c 0) rfl) $$ [HcS0 HO HatS0]
  · isplitr; · iexact HIs0
    isplitl [HcS0]; · iexact HcS0
    isplitl [HO]; · iexact HO
    iexact HatS0
  iintro ⟨HO, HzS0, HpS0⟩
  iapply (wp_wt M K c _ (rS 0) recv0 (recvPay M c 0) _ (expect_recv M c 0) (rest_recv M c 0) (dst := slot0) rfl) $$ [HcR0 HO HatR0]
  · isplitr; · iexact HIr0
    isplitl [HcR0]; · iexact HcR0
    isplitl [HO]; · iexact HO
    iexact HatR0
  iintro ⟨HO, HzR0, HpR0⟩
  imod (close M _ _) $$ [HatB] with HzB
  · isplitr; · iexact HIb
    iexact HatB
  unfold sendPay recvPay
  icases HpS0 with ⟨%e0, Hm0⟩
  icases HpS1 with ⟨%e1, Hm1⟩
  icases HpS2 with ⟨%e2, Hm2⟩
  icases HpR0 with ⟨%h0, %a0, Hc0⟩
  icases HpR1 with ⟨%h1, %a1, Hc1⟩
  icases HpR2 with ⟨%h2, %a2, Hc2⟩
  ihave Hm := (mine_rejoin c (PosShare.mem_left_op_right fullShare.right.right) f e0) $$ [Hm0 Hmk]
  · isplitl [Hm0]; · iexact Hm0
    iexact Hmk
  ihave Hm := (mine_rejoin c (PosShare.mem_left_op_right fullShare.right) f e1) $$ [Hm1 Hm]
  · isplitl [Hm1]; · iexact Hm1
    iexact Hm
  ihave Hm := (mine_rejoin c (PosShare.mem_left_op_right fullShare) f e2) $$ [Hm2 Hm]
  · isplitl [Hm2]; · iexact Hm2
    iexact Hm
  ihave Hc := (comm_join c ![h0, h1, h2]) $$ [Hc0 Hc1 Hc2]
  · isplitl [Hc0]; · iexact Hc0
    isplitl [Hc1]; · iexact Hc1
    iexact Hc2
  have b0 : Agree (slotOf 0 (stitch ![h0, h1, h2])) (M (fr c 0)) := a0
  have b1 : Agree (slotOf 1 (stitch ![h0, h1, h2])) (M (fr c 1)) := a1
  have b2 : Agree (slotOf 2 (stitch ![h0, h1, h2])) (M (fr c 2)) := a2
  generalize stitch ![h0, h1, h2] = h at b0 b1 b2 ⊢
  unfold minePts
  ihave Hm : at_ c cc0_scratch0 f $$ [Hm]
  · iexact Hm
  ihave Hx0 : at_ c cc0_stg0_0 X0 $$ [Hx0]
  · iexact Hx0
  ihave Hx1 : at_ c cc0_stg1_0 X1 $$ [Hx1]
  · iexact Hx1
  ihave Hx2 : at_ c cc0_stg2_0 X2 $$ [Hx2]
  · iexact Hx2
  ihave Ho : at_ c cc0_stg3_0 fo $$ [Ho]
  · iexact Ho
  unfold at_
  sl_exec_parts
  rw [wp_ret]; imodintro
  have hout : outOf f (slotOf 0 h) (slotOf 1 h) (slotOf 2 h) = outOf (M c) (M (fr c 0)) (M (fr c 1)) (M (fr c 2)) := outOf_congr hf b0 b1 b2
  iapply Hk
  unfold bodyPost at_
  isplitl [HzB]; · iexact HzB
  isplitl [HzS0 HzS1 HzS2]
  · isplitl [HzS0]; · iexact HzS0
    isplitl [HzS1]; · iexact HzS1
    iexact HzS2
  isplitl [HzR0 HzR1 HzR2]
  · isplitl [HzR0]; · iexact HzR0
    isplitl [HzR1]; · iexact HzR1
    iexact HzR2
  isplitl [Hm]; · iexists f; iexact Hm
  isplitl [Hc]; · iexists h; iexact Hc
  isplitl [Hx0]; · iexact Hx0
  isplitl [Hx1]; · iexact Hx1
  isplitl [Hx2]; · iexact Hx2
  isplitl [Ho]
  · rw [← hout, outOf_loads]
    iapply (Entails.of_eq (congrArg (fun z => ((Memref.whole cc0_stg3_0).view.loc (c : Thread nD τ) ↦[Finset.univ]{fullShare} z : sProp 𝕄))
      (Memref.write_access_unit_zero_univ (Elt F) cc0_stg3_0 (funext fun a => match a with | 0 => rfl | 1 => rfl) inb_S64x64_S64x64_0_0 fo _)))
    iexact Ho
  iexists _
  iexact HO

end Cert.KernelIdeal.Decode

end
-- ==== Proof.Data.lean ====
/-
# The staged region of the kernel: what its windows hold, what rides through its one point, and its body's obligation
-/
module

public import proofs.«01_k».proof.Proof.Body

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s queries spread over the heads, its keys and its values, as the kernel finds them. -/
abbrev X0 (c : Dev nD) : S8x8x512.Idx → Elt F .bf16 := V m c main_v13
abbrev X1 (c : Dev nD) : S8x512x512.Idx → Elt F .bf16 := V m c main_v14
abbrev X2 (c : Dev nD) : S8x512x512.Idx → Elt F .bf16 := V m c main_v15
/-- What device `c` packs. -/
def packOf (c : Dev nD) : S64x128.Idx → Elt F .f32 := pack (X0 m c) (X1 m c) (X2 m c)
/-- What it combines its own block and the three received into. -/
def outAt (c : Dev nD) : S64x64.Idx → Elt F .f32 :=
  outOf (packOf m c) (packOf m (fr c 0)) (packOf m (fr c 1)) (packOf m (fr c 2))

/-- Window 0's one block is its whole array. -/
theorem blk_read0 (f : S8x8x512.Idx → Elt F .bf16) : ((cfg0.win 0).blk t0_0).view.read (Elt F) f = f := by
  funext i
  refine congrArg f (funext fun a => ?_)
  match a with
  | 0 => exact Fin.ext (by show 0 * 8 + 1 * (i 0).val = (i 0).val; omega)
  | 1 => exact Fin.ext (by show 0 * 8 + 1 * (i 1).val = (i 1).val; omega)
  | 2 => exact Fin.ext (by show 0 * 512 + 1 * (i 2).val = (i 2).val; omega)
/-- So is window 1's; -/
theorem blk_read1 (f : S8x512x512.Idx → Elt F .bf16) : ((cfg0.win 1).blk t0_0).view.read (Elt F) f = f := by
  funext i
  refine congrArg f (funext fun a => ?_)
  match a with
  | 0 => exact Fin.ext (by show 0 * 8 + 1 * (i 0).val = (i 0).val; omega)
  | 1 => exact Fin.ext (by show 0 * 512 + 1 * (i 1).val = (i 1).val; omega)
  | 2 => exact Fin.ext (by show 0 * 512 + 1 * (i 2).val = (i 2).val; omega)
/-- window 2's; -/
theorem blk_read2 (f : S8x512x512.Idx → Elt F .bf16) : ((cfg0.win 2).blk t0_0).view.read (Elt F) f = f :=
  blk_read1 f
/-- and the result's. -/
theorem blk_read3 (f : S64x64.Idx → Elt F .f32) : ((cfg0.win 3).blk t0_0).view.read (Elt F) f = f := by
  funext i
  refine congrArg f (funext fun a => ?_)
  match a with
  | 0 => exact Fin.ext (by show 0 * 64 + 1 * (i 0).val = (i 0).val; omega)
  | 1 => exact Fin.ext (by show 0 * 64 + 1 * (i 1).val = (i 1).val; omega)

/-! ## The region's proof data -/

/-- What enters the body beside the staged windows. -/
def Φ₀ (c : Dev nD) : sProp 𝕄 :=
  iprop((∃ K, opened (packOf m) K c) ∗ creds (F := F) c ∗ levAts L lv
    ∗ (∃ f, at_ (F := F) c cc0_scratch0 f) ∗ (∃ f, at_ (F := F) c cc0_scratch1 f) ∗ ∃ r, prngReg c r)
/-- What leaves it. -/
def Φ₁ (c : Dev nD) : sProp 𝕄 :=
  iprop(semVal (barCell c) 0 ∗ (three fun k => semVal (sendCell c k) 0) ∗ (three fun k => semVal (recvCell c k) 0)
    ∗ (∃ f, at_ (F := F) c cc0_scratch0 f) ∗ (∃ f, at_ (F := F) c cc0_scratch1 f) ∗ ∃ r, prngReg c r)

/-- The region: the three inputs left in place, the result at `outAt`; before its one point the device owes `O₀`, after it nothing. -/
def dat0 (c : Dev nD) : Dat τ (Elt F) Unit ℕ UU ℕ cfg0 c where
  A w := V m c (Pipeline.arrRef spec0 w)
  after w _ := match w with
    | ⟨0, _⟩ => X0 m c
    | ⟨1, _⟩ => X1 m c
    | ⟨2, _⟩ => X2 m c
    | ⟨3, _⟩ => outAt m c
  Φ t := if t.val = 0 then Φ₀ m c else Φ₁ (F := F) c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat0 m c

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed t0_0.succ = 0 := by
  show (if (t0_0.succ : Fin (cfg0.N + 1)).val = 0 then O₀ c else 0) = 0; exact if_neg (Nat.succ_ne_zero _)
theorem Φ_first (c : Dev nD) : (dat0 m c).Φ t0_0.castSucc = Φ₀ m c := by
  show (if (t0_0.castSucc : Fin (cfg0.N + 1)).val = 0 then Φ₀ m c else Φ₁ (F := F) c) = _; exact if_pos rfl
theorem Φ_last (c : Dev nD) : (dat0 m c).Φ t0_0.succ = Φ₁ (F := F) c := by
  show (if (t0_0.succ : Fin (cfg0.N + 1)).val = 0 then Φ₀ m c else Φ₁ (F := F) c) = _; exact if_neg (Nat.succ_ne_zero _)

/-- At the region's one point each input's staging buffer holds its whole array. -/
theorem before0 (c : Dev nD) (d) : (dat0 m c).before (0 : Fin 4) t0_0 d = X0 m c := by
  unfold Dat.before; rw [show (cfg0.win (0 : Fin 4)).fetch t0_0 = true from by decide, if_pos rfl]
  unfold Dat.fetched Dat.blockOf; exact Eq.trans (b := ((cfg0.win 0).blk t0_0).view.read (Elt F) (X0 m c)) rfl (blk_read0 _)
theorem before1 (c : Dev nD) (d) : (dat0 m c).before (1 : Fin 4) t0_0 d = X1 m c := by
  unfold Dat.before; rw [show (cfg0.win (1 : Fin 4)).fetch t0_0 = true from by decide, if_pos rfl]
  unfold Dat.fetched Dat.blockOf; exact Eq.trans (b := ((cfg0.win 1).blk t0_0).view.read (Elt F) (X1 m c)) rfl (blk_read1 _)
theorem before2 (c : Dev nD) (d) : (dat0 m c).before (2 : Fin 4) t0_0 d = X2 m c := by
  unfold Dat.before; rw [show (cfg0.win (2 : Fin 4)).fetch t0_0 = true from by decide, if_pos rfl]
  unfold Dat.fetched Dat.blockOf; exact Eq.trans (b := ((cfg0.win 2).blk t0_0).view.read (Elt F) (X2 m c)) rfl (blk_read2 _)

omit [FloatOps F] in
/-- A staging buffer owned whole at contents `X` is the buffer at those contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) ⊣⊢ at_ c b X := by
  unfold owns at_
  simp only [Memref.view_whole, View.read_whole, View.set_whole]
  constructor
  · iintro ⟨%f, %h, H⟩; subst h; iexact H
  · iintro H; iexists X; isplitr; · ipureintro; rfl
    iexact H

theorem owesAt_intro (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound; rw [h]
  iintro HO; iexists W; isplitr; · ipureintro; exact fun _ _ => Or.inl trivial
  iexact HO
theorem owesAt_elim (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

/-- The four windows' staging buffers as the body finds them. -/
def stgPre (c : Dev nD) : sProp 𝕄 :=
  iprop((∃ d, owns (c : Thread nD τ) (Memref.whole cc0_stg0_0) fullShare ((dat0 m c).before (0 : Fin 4) t0_0 d))
    ∗ (∃ d, owns (c : Thread nD τ) (Memref.whole cc0_stg1_0) fullShare ((dat0 m c).before (1 : Fin 4) t0_0 d))
    ∗ (∃ d, owns (c : Thread nD τ) (Memref.whole cc0_stg2_0) fullShare ((dat0 m c).before (2 : Fin 4) t0_0 d))
    ∗ (∃ d, owns (c : Thread nD τ) (Memref.whole cc0_stg3_0) fullShare ((dat0 m c).before (3 : Fin 4) t0_0 d)))
/-- And as it leaves them. -/
def stgPost (c : Dev nD) : sProp 𝕄 :=
  iprop(owns (c : Thread nD τ) (Memref.whole cc0_stg0_0) fullShare (X0 m c)
    ∗ owns (c : Thread nD τ) (Memref.whole cc0_stg1_0) fullShare (X1 m c)
    ∗ owns (c : Thread nD τ) (Memref.whole cc0_stg2_0) fullShare (X2 m c)
    ∗ owns (c : Thread nD τ) (Memref.whole cc0_stg3_0) fullShare (outAt m c))

/-- The body, from what the region hands it to what it must give back. -/
theorem body_at (c : Dev nD) : iprop(Φ₀ m c ∗ (dat0 m c).owesAt () t0_0.castSucc ∗ stgPre m c)
    ⊢ wp frame (wpE (defs₀ (F := F)) 𝒱₀ c none) Set.univ (bodyAt0 (F := F) t0_0)
        fun _ => iprop(Φ₁ (F := F) c ∗ (dat0 m c).owesAt () t0_0.succ ∗ stgPost m c) := by
  unfold Φ₀ stgPre
  iintro ⟨⟨⟨%K, Hg⟩, Hc, Hlev, Hm, Hn, Hp⟩, HO, ⟨%d0, H0⟩, ⟨%d1, H1⟩, ⟨%d2, H2⟩, ⟨%d3, H3⟩⟩
  rw [before0, before1, before2]
  ihave HO' := (owesAt_elim m c _ (O₀ c) (owed_first m c)) $$ HO
  icases HO' with ⟨%W, HO⟩
  iapply (body_run (packOf m) (X0 m c) (X1 m c) (X2 m c) K c W _ (fun _ _ => rfl))
  isplitr [Hp]
  · unfold bodyPre
    isplitl [Hg]; · iexact Hg
    isplitl [Hc]; · iexact Hc
    isplitl [Hlev]; · iexact Hlev
    isplitl [Hm]; · iexact Hm
    isplitl [Hn]; · iexact Hn
    isplitl [H0]; · iapply (owns_stage c cc0_stg0_0 _).1; iexact H0
    isplitl [H1]; · iapply (owns_stage c cc0_stg1_0 _).1; iexact H1
    isplitl [H2]; · iapply (owns_stage c cc0_stg2_0 _).1; iexact H2
    isplitl [H3]
    · iexists _; iapply (owns_stage c cc0_stg3_0 _).1; iexact H3
    iexact HO
  unfold bodyPost Φ₁ stgPost
  iintro ⟨Hb, Hs, Hr, Hm, Hn, H0, H1, H2, H3, ⟨%W', HO⟩⟩
  isplitl [Hb Hs Hr Hm Hn Hp]
  · isplitl [Hb]; · iexact Hb
    isplitl [Hs]; · iexact Hs
    isplitl [Hr]; · iexact Hr
    isplitl [Hm]; · iexact Hm
    isplitl [Hn]; · iexact Hn
    iexact Hp
  isplitl [HO]; · iapply (owesAt_intro m c t0_0.succ 0 (owed_last m c) W'); iexact HO
  isplitl [H0]; · iapply (owns_stage c cc0_stg0_0 _).2; iexact H0
  isplitl [H1]; · iapply (owns_stage c cc0_stg1_0 _).2; iexact H1
  isplitl [H2]; · iapply (owns_stage c cc0_stg2_0 _).2; iexact H2
  iapply (owns_stage c cc0_stg3_0 _).2; iexact H3

/-- The region's body obligation. -/
theorem body0 (c : Dev nD) : BodyObligation (dat0 (F := F) m c) defs₀ 𝒱₀ () Set.univ := fun t => by
  obtain rfl := fin_N0 t
  rw [bigSep_W0, bigSep_W0, Φ_first, Φ_last]
  exact body_at m c

end Cert.KernelIdeal.Decode
-- ==== Proof.Cells.lean ====
/-
# Funding the exchange at launch: the cells' invariants, the duty tokens dealt to who pays them, the launch credit
-/
module

public import proofs.«01_k».proof.Proof.Protocol

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (M : Dev nD → S64x128.Idx → Elt F .f32)

/-! ## The kernel's own counters, and the sets of cells -/

/-- The kernel's own counters: the send ones (slots 2, 1, 0), then the receive ones (slots 0, 1, 2). -/
abbrev osem : Fin 6 → SemLoc sig := fun | 0 => .dma (sS 2) | 1 => .dma (sS 1) | 2 => .dma (sS 0) | 3 => .dma (rS 0) | 4 => .dma (rS 1) | 5 => .dma (rS 2)

theorem osem_inj : Function.Injective osem := by decide
theorem osem_ne_bar : ∀ k : Fin 6, osem k ≠ .reg barS := by decide
theorem sS_osem : ∀ k : Fin 3, ∃ j : Fin 6, osem j = .dma (sS k) := by decide
theorem rS_osem : ∀ k : Fin 3, ∃ j : Fin 6, osem j = .dma (rS k) := by decide

def barEmb : Dev nD ↪ GSem nD τ sig := ⟨fun c => barCell c, fun _ _ h => congrArg (fun g : GSem nD τ sig => g.1.1) h⟩
def xferEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, funded from their counters, and the transfer cells, funded dormant. -/
abbrev barCells : Finset (GSem nD τ sig) := Finset.univ.map barEmb
abbrev xferCells : Finset (GSem nD τ sig) := Finset.univ.map xferEmb

theorem disjoint_cells : Disjoint barCells xferCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ barCells ∪ xferCells :=
  Finset.mem_union_left _ (Finset.mem_map_of_mem barEmb (Finset.mem_univ c))
theorem send_mem (c : Dev nD) (k : Fin 3) : sendCell c k ∈ barCells ∪ xferCells := by
  obtain ⟨j, hj⟩ := sS_osem k
  refine Finset.mem_union_right _ (Finset.mem_map.mpr ⟨(c, j), Finset.mem_univ _, ?_⟩)
  exact congrArg (fun s => (((c : Thread nD τ), s) : GSem nD τ sig)) hj
theorem recv_mem (c : Dev nD) (k : Fin 3) : recvCell c k ∈ barCells ∪ xferCells := by
  obtain ⟨j, hj⟩ := rS_osem k
  refine Finset.mem_union_right _ (Finset.mem_map.mpr ⟨(c, j), Finset.mem_univ _, ?_⟩)
  exact congrArg (fun s => (((c : Thread nD τ), s) : GSem nD τ sig)) hj

/-- Every duty's token: three on each barrier cell, one on each transfer cell. -/
abbrev tokSem : Fin 9 → SemLoc sig := fun | 0 => .reg barS | 1 => .reg barS | 2 => .reg barS | 3 => .dma (rS 0) | 4 => .dma (rS 1) | 5 => .dma (rS 2) | 6 => .dma (sS 0) | 7 => .dma (sS 1) | 8 => .dma (sS 2)
abbrev tokDuty : Fin 9 → Fin 3 := fun | 0 => 0 | 1 => 1 | 2 => 2 | 3 => 0 | 4 => 0 | 5 => 0 | 6 => 0 | 7 => 0 | 8 => 0
theorem tok_inj : Function.Injective (fun k : Fin 9 => (tokSem k, tokDuty k)) := by decide
def allToks : Finset (GSem nD τ sig × ℕ × Fin 3) :=
  Finset.univ.map ⟨fun ck : Dev nD × Fin 9 => (((ck.1 : Thread nD τ), tokSem ck.2), 0, tokDuty ck.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩

/-! ## Dealing -/

/-- The records every device may consult: all the invariants under one map of names; round 0 of every barrier cell reached. -/
def records (κ : GSem nD τ sig → ℕ) : sProp 𝕄 :=
  iprop((bigSep (barCells ∪ xferCells) fun g => cellInv ER (rd M) (κ g) g) ∗ bigSep barCells fun g => reached ER g 0)
omit [FloatOps F] in
instance records_persistent (κ : GSem nD τ sig → ℕ) : BI.Persistent (records M κ) := by unfold records; infer_instance

omit [FloatOps F] in
theorem inv_at (κ : GSem nD τ sig → ℕ) {g : GSem nD τ sig} (hg : g ∈ barCells ∪ xferCells) :
    (bigSep (barCells ∪ xferCells) fun g => (cellInv ER (rd M) (κ g) g : sProp 𝕄)) ⊢ cellInv ER (rd M) (κ g) g :=
  bigSep_elim hg
omit [FloatOps F] in
theorem reached_at (c : Dev nD) : (bigSep barCells fun g => (reached ER g 0 : sProp 𝕄)) ⊢ reached ER (barCell c) 0 :=
  bigSep_elim (Finset.mem_map_of_mem barEmb (Finset.mem_univ c))

/-- What stays with device `c`: its barrier position, its rights to open, the tokens of the duties it pays. -/
def linear (c : Dev nD) : sProp 𝕄 :=
  iprop(atPos ER (barCell c) 0 (∅ : Finset (Fin 3)) 0
    ∗ ((three fun k => openTok ER (sendCell c k)) ∗ (three fun k => openTok ER (recvCell c k))) ∗ payToks (F := F) c)

omit [FloatOps F] in
theorem ghost_intro (κ : GSem nD τ sig → ℕ) (c : Dev nD) : iprop(records M κ ∗ linear (F := F) c) ⊢ iprop(∃ K, ghost M K c) := by
  unfold records linear ghost invs
  iintro ⟨⟨#HI, #HR⟩, HaB, ⟨HoS, HoV⟩, Ht⟩
  iexists κ
  isplitr
  · isplitr; · iapply (inv_at M κ (bar_mem c)); iexact HI
    isplitr
    · isplitr; · iapply (inv_at M κ (send_mem c 0)); iexact HI
      isplitr; · iapply (inv_at M κ (send_mem c 1)); iexact HI
      iapply (inv_at M κ (send_mem c 2)); iexact HI
    isplitr
    · isplitr; · iapply (inv_at M κ (recv_mem c 0)); iexact HI
      isplitr; · iapply (inv_at M κ (recv_mem c 1)); iexact HI
      iapply (inv_at M κ (recv_mem c 2)); iexact HI
    isplitr
    · isplitr; · iapply (inv_at M κ (bar_mem (fr c 0))); iexact HI
      isplitr; · iapply (inv_at M κ (bar_mem (fr c 1))); iexact HI
      iapply (inv_at M κ (bar_mem (fr c 2))); iexact HI
    isplitr; · iapply (inv_at M κ (recv_mem (dest c 0) 0)); iexact HI
    isplitr; · iapply (inv_at M κ (recv_mem (dest c 1) 1)); iexact HI
    iapply (inv_at M κ (recv_mem (dest c 2) 2)); iexact HI
  isplitl [HaB]; · iexact HaB
  isplitl [HoS]; · iexact HoS
  isplitl [HoV]; · iexact HoV
  isplitr
  · isplitr; · iapply (reached_at (F := F) (fr c 0)); iexact HR
    isplitr; · iapply (reached_at (F := F) (fr c 1)); iexact HR
    iapply (reached_at (F := F) (fr c 2)); iexact HR
  iexact Ht

/-- A device's own cells' tokens. -/
def toks (c : Dev nD) : sProp 𝕄 :=
  iprop((three fun k => dutyTok ER (barCell c) 0 k) ∗ (three fun k => dutyTok ER (recvCell c k) 0 (0 : Fin 3))
    ∗ (three fun k => dutyTok ER (sendCell c k) 0 (0 : Fin 3)))

omit [FloatOps F] in
theorem toks_eq : (bigSep allToks fun x => (dutyTok ER x.1 x.2.1 x.2.2 : sProp 𝕄)) ⊢ bigSep Finset.univ fun c : Dev nD => toks (F := F) c := by
  unfold allToks; rw [bigSep_map, bigSep_univ_prod]
  refine bigSep_mono fun c _ => ?_
  rw [bigSep_univ_eq_bigSepL [(0 : Fin 9), 1, 2, 3, 4, 5, 6, 7, 8] (by decide) (by decide)]
  unfold toks
  show iprop(dutyTok ER (barCell c) 0 (0 : Fin 3) ∗ dutyTok ER (barCell c) 0 (1 : Fin 3) ∗ dutyTok ER (barCell c) 0 (2 : Fin 3)
    ∗ dutyTok ER (recvCell c 0) 0 (0 : Fin 3) ∗ dutyTok ER (recvCell c 1) 0 (0 : Fin 3) ∗ dutyTok ER (recvCell c 2) 0 (0 : Fin 3)
    ∗ dutyTok ER (sendCell c 0) 0 (0 : Fin 3) ∗ dutyTok ER (sendCell c 1) 0 (0 : Fin 3) ∗ dutyTok ER (sendCell c 2) 0 (0 : Fin 3)) ⊢ _
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

omit [FloatOps F] in
/-- The barrier and receive tokens handed to the devices that pay them. -/
theorem toks_around : (bigSep Finset.univ fun c : Dev nD => toks (F := F) c) ⊢ bigSep Finset.univ fun c : Dev nD => payToks (F := F) c := by
  unfold toks payToks three
  simp only [bigSep_sep']
  rw [bigSep_univ_equiv (hop 0).symm (fun c : Dev nD => (dutyTok ER (barCell c) 0 (0 : Fin 3) : sProp 𝕄)),
    bigSep_univ_equiv (hop 1).symm (fun c : Dev nD => (dutyTok ER (barCell c) 0 (1 : Fin 3) : sProp 𝕄)),
    bigSep_univ_equiv (hop 2).symm (fun c : Dev nD => (dutyTok ER (barCell c) 0 (2 : Fin 3) : sProp 𝕄)),
    bigSep_univ_equiv (hop 0) (fun c : Dev nD => (dutyTok ER (recvCell c 0) 0 (0 : Fin 3) : sProp 𝕄)),
    bigSep_univ_equiv (hop 1) (fun c : Dev nD => (dutyTok ER (recvCell c 1) 0 (0 : Fin 3) : sProp 𝕄)),
    bigSep_univ_equiv (hop 2) (fun c : Dev nD => (dutyTok ER (recvCell c 2) 0 (0 : Fin 3) : sProp 𝕄))]
  exact BI.Entails.refl _

/-! ## The launch credit -/

theorem cell_eq_iff {a b : Dev nD} {sm : SemLoc sig} : ((((a : Thread nD τ), sm) : GSem nD τ sig) = ((b : Thread nD τ), sm)) ↔ a = b :=
  ⟨fun h => Fin.ext (congrArg (fun g : GSem nD τ sig => g.1.1.val) h), fun h => h ▸ rfl⟩
theorem rS_inj : ∀ k k' : Fin 3, rS k = rS k' → k = k' := by decide

/-- What device `d` owes a barrier cell: a unit if it is one of the three it signals. -/
theorem owed_bar (d c : Dev nD) : O₀ d (barCell c) () = (if d = dest c 2 then 1 else 0) + (if d = dest c 1 then 1 else 0) + (if d = dest c 0 then 1 else 0) := by
  have h (k : Fin 3) : (tallyAt (barCell (fr d k)) () 1 : CellTallies nD τ sig Unit) (barCell c) () = if d = dest c k then 1 else 0 := by
    rw [tallyAt_apply]
    by_cases h : d = dest c k
    · subst h; rw [fr_dest, if_pos ⟨rfl, rfl⟩, if_pos rfl]
    · rw [if_neg (fun h1 => h (by rw [← dest_fr d k]; exact congrArg (fun x => dest x k) (cell_eq_iff.mp h1.1).symm)), if_neg h]
  have h' (k : Fin 3) : (tallyAt (recvCell (dest d k) k) () N : CellTallies nD τ sig Unit) (barCell c) () = 0 := by
    rw [tallyAt_apply, if_neg (fun h => absurd (congrArg Prod.snd h.1) (dma_ne_bar _).symm)]
  unfold O₀ Or
  simp only [Pi.add_apply, Finsupp.add_apply, h, h', Pi.zero_apply, Finsupp.zero_apply, Nat.zero_add]

/-- What device `d` owes a receive cell: the transfer's credit if it is the one that fills the slot. -/
theorem owed_recv (d c : Dev nD) (k : Fin 3) : O₀ d (recvCell c k) () = if d = fr c k then N else 0 := by
  have h (j : Fin 3) : (tallyAt (barCell (fr d j)) () 1 : CellTallies nD τ sig Unit) (recvCell c k) () = 0 := by
    rw [tallyAt_apply, if_neg (fun h => absurd (congrArg Prod.snd h.1) (dma_ne_bar _))]
  have h' (j : Fin 3) : (tallyAt (recvCell (dest d j) j) () N : CellTallies nD τ sig Unit) (recvCell c k) () = if j = k then (if d = fr c k then N else 0) else 0 := by
    rw [tallyAt_apply]
    by_cases hj : j = k
    · subst hj; rw [if_pos rfl]
      by_cases h : d = fr c j
      · subst h; rw [dest_fr, if_pos ⟨rfl, rfl⟩, if_pos rfl]
      · rw [if_neg (fun h1 => h (by rw [← fr_dest d j]; exact congrArg (fun x => fr x j) (cell_eq_iff.mp h1.1).symm)), if_neg h]
    · rw [if_neg hj, if_neg (fun h1 => hj (rS_inj _ _ (SemLoc.dma.inj (congrArg Prod.snd h1.1))).symm)]
  unfold O₀ Or
  simp only [Pi.add_apply, Finsupp.add_apply, h, h', Pi.zero_apply, Finsupp.zero_apply, Nat.zero_add, Nat.add_zero]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (fr c k) fun _ => N,
    if_pos (Finset.mem_univ _)]

omit [FloatOps F] in
/-- Device `c`'s launch credit holds the credits it waits with. -/
theorem creds_intro (c : Dev nD) : (Pipeline.launchCred O₀ c : sProp 𝕄) ⊢ creds (F := F) c := by
  unfold Pipeline.launchCred creds three
  rw [bigSep_univ_at _ (SemLoc.reg barS), launch_bar]
  refine sep_mono_right ?_
  dsimp only
  rw [bigSep_erase (Finset.mem_erase.mpr ⟨dma_ne_bar (rS 0), Finset.mem_univ (SemLoc.dma (rS 0))⟩),
    bigSep_erase (Finset.mem_erase.mpr ⟨(by decide : SemLoc.dma (rS 1) ≠ SemLoc.dma (rS 0)), Finset.mem_erase.mpr ⟨dma_ne_bar (rS 1), Finset.mem_univ (SemLoc.dma (rS 1))⟩⟩),
    ← launch_recv c 0, ← launch_recv c 1, ← launch_recv c 2]
  refine sep_mono_right (sep_mono_right ?_)
  exact bigSep_elim (Finset.mem_erase.mpr ⟨by decide, Finset.mem_erase.mpr ⟨by decide, Finset.mem_erase.mpr ⟨dma_ne_bar _, Finset.mem_univ _⟩⟩⟩)

end Cert.KernelIdeal.Decode
-- ==== Proof.Region.lean ====
/-
# The kernel's region as a segment of @main: entered with the exchange's ghost state, left with its counters at zero
-/
module

public import proofs.«01_k».proof.Proof.Data
public import proofs.«01_k».proof.Proof.Cells
public import Idealize.ShloMosaic.Lib.Pipeline.RegionTalk
public import Idealize.ShloMosaic.Lib.Pipeline.RegionArraysS

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the region is entered with beside its buffers; the same once its own counters are open; what it leaves. -/
def Tk (c : Dev nD) : sProp 𝕄 := iprop((∃ K, ghost (packOf m) K c) ∗ creds (F := F) c)
def Xk (c : Dev nD) : sProp 𝕄 := iprop((∃ K, opened (packOf m) K c) ∗ creds (F := F) c ∗ levAts L lv)
def Yk (c : Dev nD) : sProp 𝕄 := semVal (barCell c) 0

omit [FloatOps F] in
/-- The kernel's own counters, the send ones and the receive ones. -/
theorem ownSems_eq (c : Dev nD) : (Pipeline.ownSems0 osem c : sProp 𝕄)
    = iprop(semVal (sendCell c 2) 0 ∗ semVal (sendCell c 1) 0 ∗ semVal (sendCell c 0) 0
        ∗ semVal (recvCell c 0) 0 ∗ semVal (recvCell c 1) 0 ∗ semVal (recvCell c 2) 0) :=
  bigSep_univ_eq_bigSepL [(0 : Fin 6), 1, 2, 3, 4, 5] (by decide) (by decide) (fun k : Fin 6 => (semVal ((c : Thread nD τ), osem k) 0 : sProp 𝕄))

omit [FloatOps F] in
/-- A dormant cell whose counter is at zero is opened at its first round. -/
theorem cellOpen (M : Dev nD → S64x128.Idx → Elt F .f32) (κ : ℕ) (g : GSem nD τ sig) :
    iprop(cellInv ER (rd M) κ g ∗ openTok ER g ∗ semVal g 0)
      ⊢ (|={Set.univ}=> iprop(atPos ER g 0 (∅ : Finset (Fin 3)) 0 ∗ reached ER g 0) : sProp 𝕄) :=
  Rounds.cell_open ER (rd M) (Set.mem_univ κ)

omit [FloatOps F] in
/-- Opening every send and receive cell of a device. -/
theorem ghost_open (M : Dev nD → S64x128.Idx → Elt F .f32) (K : GSem nD τ sig → ℕ) (c : Dev nD) :
    iprop(ghost M K c ∗ Pipeline.ownSems0 osem c) ⊢ (|={Set.univ}=> opened M K c : sProp 𝕄) := by
  rw [ownSems_eq]
  unfold ghost opened invs
  iintro ⟨⟨⟨#HB, ⟨#HS0, #HS1, #HS2⟩, ⟨#HR0, #HR1, #HR2⟩, #HBf, #HRd⟩, Hat, ⟨HoS0, HoS1, HoS2⟩, ⟨HoR0, HoR1, HoR2⟩, #Hrb, Hpay⟩, Hs2, Hs1, Hs0, Hr0, Hr1, Hr2⟩
  imod (cellOpen M (K (sendCell c 0)) (sendCell c 0)) $$ [HoS0 Hs0] with ⟨HaS0, #HrS0⟩
  · isplitr; · iexact HS0
    isplitl [HoS0] <;> iassumption
  imod (cellOpen M (K (sendCell c 1)) (sendCell c 1)) $$ [HoS1 Hs1] with ⟨HaS1, #HrS1⟩
  · isplitr; · iexact HS1
    isplitl [HoS1] <;> iassumption
  imod (cellOpen M (K (sendCell c 2)) (sendCell c 2)) $$ [HoS2 Hs2] with ⟨HaS2, #HrS2⟩
  · isplitr; · iexact HS2
    isplitl [HoS2] <;> iassumption
  imod (cellOpen M (K (recvCell c 0)) (recvCell c 0)) $$ [HoR0 Hr0] with ⟨HaR0, #HrR0⟩
  · isplitr; · iexact HR0
    isplitl [HoR0] <;> iassumption
  imod (cellOpen M (K (recvCell c 1)) (recvCell c 1)) $$ [HoR1 Hr1] with ⟨HaR1, #HrR1⟩
  · isplitr; · iexact HR1
    isplitl [HoR1] <;> iassumption
  imod (cellOpen M (K (recvCell c 2)) (recvCell c 2)) $$ [HoR2 Hr2] with ⟨HaR2, #HrR2⟩
  · isplitr; · iexact HR2
    isplitl [HoR2] <;> iassumption
  imodintro
  isplitr
  · isplitr; · iexact HB
    isplitr
    · isplitr; · iexact HS0
      isplitr; · iexact HS1
      iexact HS2
    isplitr
    · isplitr; · iexact HR0
      isplitr; · iexact HR1
      iexact HR2
    isplitr; · iexact HBf
    iexact HRd
  isplitl [Hat]; · iexact Hat
  isplitl [HaS0 HaS1 HaS2]
  · isplitl [HaS0]; · iexact HaS0
    isplitl [HaS1]; · iexact HaS1
    iexact HaS2
  isplitl [HaR0 HaR1 HaR2]
  · isplitl [HaR0]; · iexact HaR0
    isplitl [HaR1]; · iexact HaR1
    iexact HaR2
  isplitr
  · isplitr; · iexact HrS0
    isplitr; · iexact HrS1
    iexact HrS2
  isplitr
  · isplitr; · iexact HrR0
    isplitr; · iexact HrR1
    iexact HrR2
  isplitr; · iexact Hrb
  iexact Hpay

/-- Entering the region opens the kernel's own cells. -/
theorem hopen0 (c : Dev nD) : iprop(Tk m c ∗ Pipeline.ownSems0 osem c ∗ levAts L lv) ⊢ (|={Set.univ}=> Xk m c : sProp 𝕄) := by
  unfold Tk Xk
  iintro ⟨⟨⟨%K, Hg⟩, Hc⟩, Hs, #Hlev⟩
  imod (ghost_open (packOf m) K c) $$ [Hg Hs] with Ho
  · isplitl [Hg] <;> iassumption
  imodintro
  isplitl [Ho]; · iexists K; iexact Ho
  isplitl [Hc]; · iexact Hc
  iexact Hlev

/-- What the region is entered with makes its invariant before its point. -/
theorem hin0 (c : Dev nD) : iprop(Pipeline.scopedRest (Pipeline.pin (pcfgs (F := F)) adm 0).spec c ∗ (∃ r, prngReg c r)
    ∗ StableHlo.held (c.tc : Thread nD τ) ∅ (V0 m c) ∗ Xk m c) ⊢ (pdats m 0 c).Φ 0 := by
  rw [show (pdats m 0 c).Φ 0 = Φ₀ m c from Φ_first m c,
    show (Pipeline.scopedRest (Pipeline.pin (pcfgs (F := F)) adm 0).spec c : sProp 𝕄)
      = iprop((∃ f, at_ (F := F) c cc0_scratch0 f) ∗ (∃ f, at_ (F := F) c cc0_scratch1 f)) from scopedRest0_eq c]
  unfold Xk Φ₀
  iintro ⟨⟨Hs0, Hs1⟩, Hp, -, HK, Hc, #Hlev⟩
  isplitl [HK]; · iexact HK
  isplitl [Hc]; · iexact Hc
  isplitr; · iexact Hlev
  isplitl [Hs0]; · iexact Hs0
  isplitl [Hs1]; · iexact Hs1
  iexact Hp

/-- The region's exit contents: the result's array at what its point flushed, every other buffer as before. -/
def V1 (c : Dev nD) : Valuation τ sig (Elt F) := Pipeline.afterRegion (dat0 m c) (V0 m c)

/-- Its invariant after its point gives back the scratch buffers, the register and the counters at zero. -/
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V1 m c) ∗ Pipeline.ownSems0 osem c ∗ Yk c) := by
  rw [show (pdats m 0 c).Φ (Fin.last _) = Φ₁ (F := F) c from Φ_last m c, ownSems_eq,
    show (Pipeline.scopedRest (Pipeline.pin (pcfgs (F := F)) adm 0).spec c : sProp 𝕄)
      = iprop((∃ f, at_ (F := F) c cc0_scratch0 f) ∗ (∃ f, at_ (F := F) c cc0_scratch1 f)) from scopedRest0_eq c]
  unfold Φ₁ Yk
  rw [show (StableHlo.held (c.tc : Thread nD τ) ∅ (V1 m c) : sProp 𝕄) = BI.emp from BI.bigSep_empty]
  iintro ⟨Hb, ⟨Hs0, Hs1, Hs2⟩, ⟨Hr0, Hr1, Hr2⟩, H0, H1, Hp⟩
  isplitl [H0 H1]; · isplitl [H0] <;> iassumption
  isplitl [Hp]; · iexact Hp
  isplitr; · iempintro
  isplitl [Hs0 Hs1 Hs2 Hr0 Hr1 Hr2]
  · isplitl [Hs2]; · iexact Hs2
    isplitl [Hs1]; · iexact Hs1
    isplitl [Hs0]; · iexact Hs0
    isplitl [Hr0]; · iexact Hr0
    isplitl [Hr1] <;> iassumption
  iexact Hb

/-- The staging semaphores are none of the receive ones. -/
theorem stage_sem : ∀ (w : Fin 4) (s : Fin (win0 w).nbuf), ¬ ∃ k : Fin 3, (SemLoc.dma ((win0 w).sem s) : SemLoc sig) = .dma (rS k) := by decide

/-- Whatever a device owes around the region's point is above its staging cells. -/
theorem cut0 : Pipeline.LevelCutOwed (pcfgs (F := F)) adm (pdats m) () L lv 0 (fun _ => 0) where
  hι c w s := mem_L ..
  hιb c w s := by
    show lv _ () ≤ 0
    dsimp only [lv]; rw [if_neg (dma_ne_bar _)]
    exact le_of_eq (if_neg (stage_sem w s))
  hD c t g i h := by
    rw [show (pdats m 0 c).owed t = if t.val = 0 then O₀ c else 0 from rfl] at h
    split at h
    · rcases O₀_pos h with ⟨d, k, rfl⟩ | ⟨d, rfl⟩
      · exact ⟨mem_L .., by rw [lv_recv]; decide⟩
      · exact ⟨mem_L .., by rw [lv_bar]; decide⟩
    · exact absurd h (Nat.lt_irrefl 0)

/-- The buffers of @main that are no window's array. -/
abbrev restRefs : Finset (DevRef τ sig) := Pipeline.ucRefs τ sig \ Pipeline.arrRefs spec0

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) launch0.toP rfl (fun c => (body0 m c).loose)
    (fun _ => 0) O₀ (fun c => (owed_first m c).trans (zero_add _).symm) (owed_last m) (fun _ => rfl) (fun _ w => by fin_cases w <;> rfl)
    (V0 m) (V1 m) (fun c b hb => Pipeline.afterRegion_off (dat0 m c) (V0 m c) (Pipeline.ucRefs τ sig) b (by rw [Finset.sdiff_empty] at hb; exact hb))
    (Tk m) Yk (Xk m) Yk (hopen0 m) (hin0 m) (hout0 m)
    (fun c => by iintro H; imodintro; iexact H)
    (fun _ => 0) (cut0 m) (fun _ => iprop(emp))
    (fun _ _ => rfl) (fun c w => (Pipeline.afterRegion_arr (dat0 m c) (V0 m c) launch0.win.arr_inj w).symm)

/-- What rides beside the buffers up to the region: the ghost state, and the device owing `O₀`. -/
def R (c : Dev nD) : sProp 𝕄 := iprop(start (packOf m) c ∗ ∃ W, owes (c : Thread nD τ) (O₀ c) W)
/-- What rides after it: the barrier counter at zero, nothing owed. -/
def R' (c : Dev nD) : sProp 𝕄 := iprop(semVal (barCell c) 0 ∗ ∃ W, owes (c : Thread nD τ) (0 : CellTallies nD τ sig Unit) W)

theorem arrRefs_sub : Pipeline.arrRefs (τ := τ) spec0 ⊆ Pipeline.ucRefs τ sig := Pipeline.arrRefs_sub_ucRefs spec0 launch0.win.arr_unscoped

theorem reg0_pre (c : Dev nD) : iprop(StableHlo.held (c : Thread nD τ) (Pipeline.ucRefs τ sig) (V0 m c) ∗ R m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) restRefs (V0 m c) ∗ emp) ∗ Tk m c ∗ ∃ Wd, owes (c : Thread nD τ) (0 + O₀ c) Wd)
  rw [zero_add, StableHlo.held_sub_split (c.tc : Thread nD τ) arrRefs_sub (V0 m c)]
  unfold R start Tk
  iintro ⟨⟨Ha, Hh⟩, ⟨HK, H1, Hp⟩, HO⟩
  isplitl [Ha]; · iexact Ha
  isplitl [Hp]; · iexact Hp
  isplitl [Hh]
  · isplitl [Hh]; · iexact Hh
    iempintro
  isplitl [HK H1]
  · isplitl [HK] <;> iassumption
  iexact HO

theorem reg0_post (c : Dev nD) : (reg0 m).post c
    ⊢ iprop(StableHlo.held (c : Thread nD τ) (Pipeline.ucRefs τ sig) (V1 m c) ∗ R' (F := F) c) := by
  show iprop(StableHlo.held (c.tc : Thread nD τ) (Pipeline.arrRefs (τ := τ) spec0) (V1 m c) ∗ (∃ r, prngReg c r)
    ∗ (StableHlo.held (c.tc : Thread nD τ) restRefs (V1 m c) ∗ emp) ∗ Yk c ∗ ∃ Wd, owes (c : Thread nD τ) (0 : CellTallies nD τ sig Unit) Wd) ⊢ _
  rw [StableHlo.held_sub_split (c.tc : Thread nD τ) arrRefs_sub (V1 m c)]
  unfold Yk R'
  iintro ⟨Ha, -, ⟨Hh, -⟩, Hb, HO⟩
  isplitl [Ha Hh]; · isplitl [Ha] <;> iassumption
  isplitl [Hb]; · iexact Hb
  iexact HO

end Cert.KernelIdeal.Decode

end
-- ==== Proof.Run.lean ====
/-
# The run of @main on the four devices
-/
module

public import proofs.«01_k».proof.Proof.Region
public import Idealize.ShloMosaic.Lib.Quiescent
public import Idealize.ShloMosaic.Harness.Basic

@[expose] public section

noncomputable section

namespace Cert.KernelIdeal.Decode

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## @main's segments -/

/-- The contents at the end of @main. -/
def V2 (c : Dev nD) : Valuation τ sig (Elt F) := StableHlo.after hostOps1 (V1 m c)
/-- The contents at launch. -/
def Vl (c : Dev nD) : Valuation τ sig (Elt F) := fun b => m (c, b)

theorem ops0_sub : ∀ op ∈ (hostOps0 : List (HloOp τ sig (Elt F))), op.bufs ⊆ Pipeline.ucRefs τ sig :=
  fun op h => Pipeline.sub_ucRefs op (List.forall_iff_forall_mem.mp hostOps0_sub op h)
theorem ops1_sub : ∀ op ∈ (hostOps1 : List (HloOp τ sig (Elt F))), op.bufs ⊆ Pipeline.ucRefs τ sig :=
  fun op h => Pipeline.sub_ucRefs op (List.forall_iff_forall_mem.mp hostOps1_sub op h)

/-- The host operations before the region, and those after it. -/
def seg0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv (Pipeline.ucRefs τ sig) hostOps0 ops0_sub
    (List.forall_iff_forall_mem.mp hostOps0_fresh) (Vl m) (R m)
def seg1 : Pipeline.HostSeg (Ix := Unit) (Name := ℕ) (U := UU) (Lvl := ℕ) (pcfgs (F := F)) defs₀ 𝒱₀ L lv :=
  Pipeline.HostSeg.ofOps (pcfgs (F := F)) defs₀ 𝒱₀ L lv (Pipeline.ucRefs τ sig) hostOps1 ops1_sub
    (List.forall_iff_forall_mem.mp hostOps1_fresh) (V1 m) (fun c => R' (F := F) c)

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

/-! ## The launch -/

/-- The launch element: the staging cells', and the exchange's. -/
def u₀ : UU :=
  (initOf (Pipeline.cells (Pipeline.pin (pcfgs (F := F)) adm) cellOf_inj) (Pipeline.launchToks (Pipeline.pin (pcfgs (F := F)) adm) cellOf_inj),
    launchOf barCells xferCells allToks)

/-- The exchange's launch element, parked on device 0 until it is dealt. -/
def G (c : Dev nD) : sProp 𝕄 := if c = 0 then BI.own (ER (launchOf barCells xferCells allToks)) else iprop(emp)

omit [FloatOps F] in
theorem bigSep_G : (bigSep Finset.univ fun c : Dev nD => (G c : sProp 𝕄)) = BI.own (ER (launchOf barCells xferCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_eq : ∀ sm : SemLoc sig, sm.isScoped .tc = false → sm = .reg barS := by decide

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (Vl m c) ∗ R m c)
abbrev Tₙ (c : Dev nD) : sProp 𝕄 := iprop(StableHlo.held (c : Thread nD τ) (Pipeline.ucRefs τ sig) (V2 m c) ∗ semVal (barCell c) 0)

/-- What of a device's launch holdings is not the exchange's ghost state. -/
def bundle (c : Dev nD) : sProp 𝕄 :=
  iprop(StableHlo.held (c : Thread nD τ) (Pipeline.ucRefs τ sig) (Vl m c) ∗ creds (F := F) c
    ∗ owes (c : Thread nD τ) (O₀ c) ∅ ∗ ∃ r, prngReg c r)

theorem T₀_intro (κ : GSem nD τ sig → ℕ) (c : Dev nD) : iprop(records (packOf m) κ ∗ (linear (F := F) c ∗ bundle m c)) ⊢ T₀ m c := by
  unfold bundle T₀ R start
  iintro ⟨#HR, Hl, Hh, H1, HO, Hp⟩
  isplitl [Hh]; · iexact Hh
  isplitr [HO]
  · isplitl [Hl]
    · iapply (ghost_intro (packOf m) κ c)
      isplitr; · iexact HR
      iexact Hl
    isplitl [H1] <;> iassumption
  · iexists ∅; iexact HO

/-- One device's launch holdings, its barrier counter and its part of the launch element set apart. -/
theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show (unscopedBufs c (fun b => m ((c : Thread nD τ).loc b)) : sProp 𝕄) = StableHlo.held (c : Thread nD τ) (Pipeline.ucRefs τ sig) (Vl m c)
      from Pipeline.unscopedBufs_held c (Vl m c), unscopedSems_eq]
  unfold bundle
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

omit [FloatOps F] in
/-- The rights to open the send and receive cells, device by device. -/
theorem open_deal : bigSep xferCells (fun g => (openTok ER g : sProp 𝕄))
    ⊢ bigSep Finset.univ (fun c : Dev nD => iprop((three fun k => openTok ER (sendCell c k)) ∗ (three fun k => openTok ER (recvCell c k)))) := by
  rw [bigSep_map, bigSep_univ_prod]
  refine bigSep_mono fun c _ => BIBase.Entails.trans (Entails.of_eq
    (bigSep_univ_eq_bigSepL [(0 : Fin 6), 1, 2, 3, 4, 5] (by decide) (by decide) (fun k : Fin 6 => (openTok ER ((c : Thread nD τ), osem k) : sProp 𝕄)))) ?_
  show iprop(openTok ER (sendCell c 2) ∗ openTok ER (sendCell c 1) ∗ openTok ER (sendCell c 0)
      ∗ openTok ER (recvCell c 0) ∗ openTok ER (recvCell c 1) ∗ openTok ER (recvCell c 2))
    ⊢ (iprop((three fun k => openTok ER (sendCell c k)) ∗ (three fun k => openTok ER (recvCell c k))) : sProp 𝕄)
  iintro ⟨H2, H1, H0, G0, G1, G2⟩
  isplitl [H0 H1 H2]
  · isplitl [H0]; · iexact H0
    isplitl [H1] <;> iassumption
  isplitl [G0]; · iexact G0
  isplitl [G1] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_split m ρ c) $$ H
  ihave H2 := bigSep_unpair $$ H'; icases H2 with ⟨HB, H3⟩
  ihave H4 := bigSep_unpair $$ H3; icases H4 with ⟨Hv, HG⟩
  ihave Hu := (Entails.of_eq (bigSep_G (F := F))) $$ HG
  imod (Rounds.fund_launch ER (rd (packOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (packOf m) κ) (Φ := fun c => iprop(linear (F := F) c ∗ bundle m c)) fun c _ => T₀_intro m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply (open_deal (F := F)) $$ Hopen
    iapply (toks_around (F := F))
    iapply (toks_eq (F := F)) $$ Htok
  · iexact HB

/-! ## The final contents -/

/-- The result's array ends at what the region's one point wrote. -/
theorem arrAt_out (c : Dev nD) : (dat0 m c).arrAt (3 : Fin 4) cfg0.N = outAt m c := by
  have h := (dat0 m c).arrAt_succ (3 : Fin 4) t0_0
  rw [if_pos (flush0_3 t0_0)] at h
  have h' := h.trans ((blk_read3 _).symm.trans (View.read_write_univ _ _))
  exact h'

theorem V1_out (c : Dev nD) : V1 m c (Proc.devRef .tc main_v16) = outAt m c :=
  (Pipeline.afterRegion_arr (dat0 m c) (V0 m c) launch0.win.arr_inj (3 : Fin 4)).trans (arrAt_out m c)

/-- A buffer no window stages and the last operation does not write is as the first operations left it. -/
theorem V2_rest (c : Dev nD) {b : Ref sig .tc} (hb : b ≠ main_v17) (hw : ∀ w, b ≠ Pipeline.arrRef spec0 w) :
    V2 m c (Proc.devRef .tc b) = V m c b := by
  unfold V2
  rw [StableHlo.after_cons, StableHlo.after_nil, StableHlo.reshape_result_ne (h := hb)]
  exact Pipeline.afterRegion_of_not_arr (dat0 m c) (V0 m c) hw

theorem V2_arg0 (c : Dev nD) : V2 m c (Proc.devRef .tc main_arg0) = m ((c : Thread nD τ).loc main_arg0) :=
  (V2_rest m c (by decide) (by decide)).trans (V_main_arg0 m c)
theorem V2_arg1 (c : Dev nD) : V2 m c (Proc.devRef .tc main_arg1) = m ((c : Thread nD τ).loc main_arg1) :=
  (V2_rest m c (by decide) (by decide)).trans (V_main_arg1 m c)
theorem V2_arg2 (c : Dev nD) : V2 m c (Proc.devRef .tc main_arg2) = m ((c : Thread nD τ).loc main_arg2) :=
  (V2_rest m c (by decide) (by decide)).trans (V_main_arg2 m c)

/-- @main's result: the region's, reshaped. -/
theorem V2_out (c : Dev nD) : V2 m c (Proc.devRef .tc main_v17) = shapeCast S8x1x8x64 (outAt m c) shapeCasts_S64x64_S8x1x8x64 := by
  unfold V2
  rw [StableHlo.after_cons, StableHlo.after_nil, StableHlo.reshape_result, V1_out]
  rfl

/-! ## The run -/

set_option backward.isDefEq.respectTransparency.types false in
/-- From any memory with zero counters every weakly fair execution of @main terminates, with every buffer of @main at its
    final contents and every counter of the machine at zero. -/
theorem run_main : θ_run defs (onTc (τ := τ) (main (F := F))) (s₀ m ρ)
    (fun r => (∀ (c : Dev nD), ∀ b ∈ Pipeline.ucRefs τ sig, r.2.mem (c, b) = V2 m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := fun c => G c) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (V2 m c) ∗ R' (F := F) c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (∀ b ∈ Pipeline.ucRefs τ sig, s.mem ((c : Thread nD τ).1, b) = V2 m c b) ∧ s.sem (barCell c) = 0)
    (hfin := fun c s' => by
      dsimp only [Tₙ]; unfold StableHlo.held
      iintro ⟨⟨Hh, Hb0⟩, HSI⟩
      icombine HSI Hb0 gives %hb
      ihave Hr := (pointsTo_read_all (Pipeline.ucRefs τ sig) (fun b => ((c.tc : Thread nD τ).1, b)) (V2 m c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => (h c).1,
      sem_eq_zero hs fun c sm hsm => by
        obtain rfl := unscoped_eq sm hsm
        exact (h c).2⟩)

/-- The same read at @main's arguments and its result. -/
theorem run_values : θ_run defs (onTc (τ := τ) (main (F := F))) (s₀ m ρ)
    (fun r => (∀ c : Dev nD, r.2.mem ((c : Thread nD τ).loc main_v17) = shapeCast S8x1x8x64 (outAt m c) shapeCasts_S64x64_S8x1x8x64
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun r h => ⟨fun c =>
    ⟨(h.1 c _ (Pipeline.devRef_mem_ucRefs (by decide))).trans (V2_out m c),
      (h.1 c _ (Pipeline.devRef_mem_ucRefs (by decide))).trans (V2_arg0 m c),
      (h.1 c _ (Pipeline.devRef_mem_ucRefs (by decide))).trans (V2_arg1 m c),
      (h.1 c _ (Pipeline.devRef_mem_ucRefs (by decide))).trans (V2_arg2 m c)⟩, h.2⟩) (run_main m ρ)

end Cert.KernelIdeal.Decode

end
-- ==== Proof.Frames.lean ====
/- The frames: each program terminates, leaves its arguments alone, and leaves every counter at zero. -/
module

public import proofs.«01_k».proof.Defs
public import proofs.«01_k».proof.Proof.Gen.Kernel
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run
public import Idealize.ShloMosaic.Lib.Quiescent

@[expose] public section

noncomputable section

namespace Cert.Proof

open Idealize.ShloMosaic Idealize.SL.Sem

/-- Over any float values the kernel terminates, keeps its arguments and leaves every counter at zero. -/
theorem kept {F : FTy → Type} [FloatOps F]
    (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩
      (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
        ∧ r.2.sem = fun _ => 0) :=
  (θ_run KernelIdeal.defs _ _).mono (fun _ h => ⟨fun c => (h.1 c).2, h.2⟩) (KernelIdeal.Decode.run_values (F := F) m g)

/-- The body tables of the two printed programs are one. -/
theorem bodies_eq : Kernel.defs₀ (F := Bits) = KernelIdeal.defs₀ (F := Bits) :=
  congrArg Defs.onTc (funext fun l => funext fun a => match l, a with
    | 0, (_, _) => rfl
    | ⟨_ + 1, h⟩, _ => absurd h (Nat.not_lt.2 (Nat.le_add_left _ _)))

/-- So are the tables with their pipelines. -/
theorem defs_eq : Kernel.defs (F := Bits) = KernelIdeal.defs (F := Bits) :=
  congrArg (Pipeline.defs (KernelIdeal.pcfgs (F := Bits))) bodies_eq

/-- The printed kernel's frame: its text and the idealized one's are the same. -/
theorem frame_kernel : Cert.quiescent_Kernel := fun m g _ => by
  have h := kept (F := Bits) m g
  rw [← defs_eq] at h
  exact h

/-- The idealized kernel's frame. -/
theorem frame_kernelIdeal : Cert.quiescent_KernelIdeal := fun m g _ => kept (F := Ideal) m g

/-- The idealized kernel's frame under the value claim's precondition, which it does not use. -/
theorem frame_kernelIdeal_pre : Cert.quiescent_KernelIdeal_pre_finite_scores_KernelIdeal := fun m g _ =>
  frame_kernelIdeal m g trivial

/-- The reference's frame: a program of host operations only, which declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's frame under the precondition, which it does not use. -/
theorem frame_referenceIdeal_pre : Cert.quiescent_ReferenceIdeal_pre_finite_scores_ReferenceIdeal := fun m g _ =>
  frame_referenceIdeal m g trivial

end Cert.Proof

end
-- ==== Proof.Local.lean ====
/-
# One batch row's share, over the extended reals

The kernel's score, maximum, sum of exponentials and weighted sum of one batch row, read at an index.
-/
module

public import proofs.«01_k».proof.Proof.Contents
public import Idealize.ShloMosaic.Lib.Pointwise

@[expose] public section

set_option maxRecDepth 16384

noncomputable section

namespace Cert.KernelIdeal.Decode

open Cert.KernelIdeal Cert.KernelIdeal.Gen
open Idealize.ShloMosaic

/-- The scaled score of head `h` against key `j`. -/
def scoreAt (q : Vec Ideal S1x8x512 .bf16) (k : Vec Ideal S1x512x512 .bf16) (h : Fin 8) (j : Fin 512) : EReal :=
  (∑ c : Fin 512, q (ix3 0 h c) * k (ix3 0 j c)) * Ideal.ofBits .f32 0x3E000000#32

/-- The kernel's score at head `h` and key `j`. -/
theorem score_apply (q : Vec Ideal S1x8x512 .bf16) (k : Vec Ideal S1x512x512 .bf16) (h : Fin 8) (j : Fin 512) :
    k0_pay2 q k (ix2 h j) = scoreAt q k h j := by
  pointwise [k0_pay2, scoreAt]

/-- The word of minus infinity. -/
theorem ofBits_neg_inf : Ideal.ofBits .f32 0xFF800000#32 = ⊥ := by
  simp [Ideal.ofBits, Ideal.ieee]

/-- The scale is a real. -/
theorem scale_real : ∃ r : ℝ, Ideal.ofBits .f32 0x3E000000#32 = r := by
  simp [Ideal.ofBits, Ideal.ieee, -EReal.coe_mul]

/-- The maximum of a head's scores. -/
theorem max_apply (q : Vec Ideal S1x8x512 .bf16) (k : Vec Ideal S1x512x512 .bf16) (h : Fin 8) :
    k0_pay3 q k (ix2 h 0) = Finset.univ.fold max ⊥ fun j => scoreAt q k h j := by
  pointwise [k0_pay3, score_apply, ofBits_neg_inf]

/-- The exponential of a score less the maximum. -/
theorem weight_apply (q : Vec Ideal S1x8x512 .bf16) (k : Vec Ideal S1x512x512 .bf16) (h : Fin 8) (j : Fin 512) :
    k0_pay4 q k (ix2 h j) = Ideal.exp (scoreAt q k h j - k0_pay3 q k (ix2 h 0)) := by
  pointwise [k0_pay4, score_apply]

/-- What is packed as the maximum, -/
theorem m_apply (q : Vec Ideal S1x8x512 .bf16) (k : Vec Ideal S1x512x512 .bf16) (h : Fin 8) :
    mOf q k (ix2 h 0) = k0_pay3 q k (ix2 h 0) := by
  pointwise [mOf, k0_pay5]

/-- and as the sum of exponentials. -/
theorem l_apply (q : Vec Ideal S1x8x512 .bf16) (k : Vec Ideal S1x512x512 .bf16) (h : Fin 8) :
    lOf q k (ix2 h 0) = ∑ j, k0_pay4 q k (ix2 h j) := by
  pointwise [lOf, k0_pay6]

/-- The exponentials times the values, all columns of all heads. -/
theorem of_apply (p : FVec Ideal S8x512 .f32) (v : Vec Ideal S1x512x512 .bf16) (h : Fin 8) (c : Fin 512) :
    k0_pay12 p v (ix2 h c) = ∑ j, p (ix2 h j) * v (ix3 0 j c) := by
  pointwise [k0_pay12]

/-- The head a column belongs to, as the kernel computes it: the quotient by sixty-four, rounded down. -/
def headOf (n : BitVec 32) : BitVec 32 :=
  Scalar.select
    (IntOp.andi
      (IntOp.cmpi .ne
        (IntOp.subi (BitVec.setWidth 32 (IntOp.cmpi .sgt n 0#32))
          (BitVec.setWidth 32 (IntOp.cmpi .slt n 0#32)))
        (Scalar.subi (Scalar.extui (Scalar.cmpi .sgt 64#32 0#32))
          (Scalar.extui (Scalar.cmpi .slt 64#32 0#32))))
      (IntOp.cmpi .ne (IntOp.remsi .vector n 64#32) 0#32))
    (IntOp.subi (IntOp.divsi .vector n 64#32) 1#32)
    (IntOp.divsi .vector n 64#32)

/-- The head of a column below 512 is its number divided by sixty-four. -/
theorem headOf_apply : ∀ n : Fin 512, headOf (BitVec.ofNat 32 n.val) = BitVec.ofNat 32 (n.val / 64) := by
  decide +kernel

/-- The mask keeps exactly the columns of a row's own head. -/
theorem select_head (h : Fin 8) (n : ℕ) (hn : n < 512) (x : EReal) :
    Scalar.select (IntOp.cmpi .eq (BitVec.ofNat 32 h.val) (headOf (BitVec.ofNat 32 n))) x 0
      = if h.val = n / 64 then x else 0 := by
  have e : IntOp.cmpi .eq (BitVec.ofNat 32 h.val) (headOf (BitVec.ofNat 32 n))
      = BitVec.ofBool (decide (h.val = n / 64)) := by
    rw [headOf_apply ⟨n, hn⟩]
    have : ∀ a b : Fin 8, IntOp.cmpi .eq (BitVec.ofNat 32 a.val) (BitVec.ofNat 32 b.val)
        = BitVec.ofBool (decide (a.val = b.val)) := by decide
    exact this h ⟨n / 64, by omega⟩
  rw [e]
  by_cases c : h.val = n / 64 <;> simp [c, Scalar.select]

/-- The masked product summed over its eight slices: each row's own slice. -/
theorem own_apply (w : FVec Ideal S8x512 .f32) (h : Fin 8) (d : Fin 64) :
    k0_pay15 w (iota .tc S8x512 32 [0] iota_S8x512_d0_w32) (iota .tc S8x512 32 [1] iota_S8x512_d1_w32) 64#32
      k0_pay13 k0_pay14 (Scalar.extui (Scalar.cmpi .sgt (64#32) (0#32)))
      (Scalar.cmpi .slt (64#32) (0#32)) (ix2 h d)
      = w (ix2 h ⟨64 * h.val + d.val, by omega⟩) := by
  pointwise [k0_pay15, k0_pay13, k0_pay14]
  simp only [← headOf.eq_1]
  rw [select_head h _ (by omega), select_head h _ (by omega), select_head h _ (by omega),
    select_head h _ (by omega), select_head h _ (by omega), select_head h _ (by omega),
    select_head h _ (by omega), select_head h _ (by omega)]
  have hd := d.isLt
  have q : ∀ a : ℕ, (64 * a + d.val) / 64 = a := fun a => by omega
  have q0 := q 0; have q1 := q 1; have q2 := q 2; have q3 := q 3
  have q4 := q 4; have q5 := q 5; have q6 := q 6; have q7 := q 7
  simp only [Nat.reduceMul, Nat.mul_zero, Nat.zero_add] at q0 q1 q2 q3 q4 q5 q6 q7
  rw [q1, q2, q3, q4, q5, q6, q7]
  fin_cases h <;> simp [q0]

end Cert.KernelIdeal.Decode
-- ==== Proof.Inputs.lean ====
/-
# A device's packed block, in terms of its arguments

The staged inputs read at an index; the score of a head against a key, free of the zeros the queries are spread with; the
packed block's maximum, sum of exponentials and weighted sum.
-/
module

public import proofs.«01_k».proof.Proof.Data
public import proofs.«01_k».proof.Proof.Local

@[expose] public section

set_option maxRecDepth 16384

noncomputable section

namespace Cert.KernelIdeal.Decode

open Cert.KernelIdeal Cert.KernelIdeal.Gen
open Idealize.ShloMosaic Idealize.ShloMosaic.TcCoe

variable (m : (ℓ : Loc nD τ sig) → Buf (Elt Ideal) ℓ)

/-- Device `c`'s queries, keys and values. -/
def qry (c : Dev nD) : S8x1x8x64.Idx → EReal := m (c.tc.loc main_arg0)
def key (c : Dev nD) : S8x512x8x64.Idx → EReal := m (c.tc.loc main_arg1)
def val (c : Dev nD) : S8x512x8x64.Idx → EReal := m (c.tc.loc main_arg2)

/-- The conversion of a comparison's bit to a float: one or zero. -/
theorem uitofp_eq (a b : Fin 8) (x : EReal) :
    x * FloatOps.uitofp (F := Ideal) .bf16 (IntOp.cmpi .eq (IntOp.addi (BitVec.ofNat 32 a.val) 0#32) (BitVec.ofNat 32 b.val))
      = if a = b then x else 0 := by
  have e : ∀ a b : Fin 8, IntOp.cmpi .eq (IntOp.addi (BitVec.ofNat 32 a.val) 0#32) (BitVec.ofNat 32 b.val)
      = BitVec.ofBool (decide (a = b)) := by decide
  rw [e a b]
  show x * (((BitVec.ofBool (decide (a = b))).toNat : ℝ) : EReal) = _
  by_cases h : a = b <;> simp [h]

/-- The queries spread over the heads: head `h` in its own sixty-four columns, zero elsewhere. -/
theorem X0_apply (c : Dev nD) (b h : Fin 8) (j : Fin 512) :
    X0 m c (ix3 b h j) = if h = ⟨j.val / 64, by omega⟩ then qry m c (ix4 b 0 h ⟨j.val % 64, by omega⟩) else 0 := by
  refine Eq.trans ?_ (uitofp_eq h ⟨j.val / 64, by omega⟩ _)
  show StableHlo.after hostOps0 _ _ _ = _
  after_results
  pointwise [qry]

/-- The keys with head and lane merged into one column, -/
theorem X1_apply (c : Dev nD) (b : Fin 8) (k j : Fin 512) :
    X1 m c (ix3 b k j) = key m c (ix4 b k ⟨j.val / 64, by omega⟩ ⟨j.val % 64, by omega⟩) := by
  show StableHlo.after hostOps0 _ _ _ = _
  after_results
  pointwise [key]

/-- and the values likewise. -/
theorem X2_apply (c : Dev nD) (b : Fin 8) (k j : Fin 512) :
    X2 m c (ix3 b k j) = val m c (ix4 b k ⟨j.val / 64, by omega⟩ ⟨j.val % 64, by omega⟩) := by
  show StableHlo.after hostOps0 _ _ _ = _
  after_results
  pointwise [val]

/-- A batch row of the queries, and of the keys or the values, at an index. -/
theorem qB_apply (X : S8x8x512.Idx → EReal) (b h : Fin 8) (j : Fin 512) : qB (F := Ideal) X b (ix3 0 h j) = X (ix3 b h j) := by
  rw [ix3_eq_valueIdx, ix3_eq_valueIdx]; rfl
theorem kB_apply (X : S8x512x512.Idx → EReal) (b : Fin 8) (k j : Fin 512) : kB (F := Ideal) X b (ix3 0 k j) = X (ix3 b k j) := by
  rw [ix3_eq_valueIdx, ix3_eq_valueIdx]; rfl

/-- A sum over the columns is a sum over the heads and their lanes. -/
theorem sum_columns (f : Fin 512 → EReal) :
    ∑ j, f j = ∑ g : Fin 8, ∑ d : Fin 64, f ⟨64 * g.val + d.val, by omega⟩ := by
  rw [← Fintype.sum_prod_type', ← (finProdFinEquiv (m := 8) (n := 64)).sum_comp f]
  refine Finset.sum_congr rfl fun x _ => congrArg f (Fin.ext ?_)
  show x.2.val + 64 * x.1.val = 64 * x.1.val + x.2.val
  omega

/-- The scaled score of head `h` of batch row `b` against key `k` of device `c`. -/
def score (c : Dev nD) (b h : Fin 8) (k : Fin 512) : EReal :=
  (∑ d : Fin 64, qry m c (ix4 b 0 h d) * key m c (ix4 b k h d)) * Ideal.ofBits .f32 0x3E000000#32

/-- The kernel's score is that one: the columns of other heads add zeros. -/
theorem scoreAt_eq (c : Dev nD) (b h : Fin 8) (k : Fin 512) :
    scoreAt (qB (X0 m c) b) (kB (X1 m c) b) h k = score m c b h k := by
  unfold scoreAt score
  congr 1
  rw [sum_columns, Finset.sum_eq_single h]
  · refine Finset.sum_congr rfl fun d _ => ?_
    rw [qB_apply, kB_apply, X0_apply, X1_apply]
    have e1 : (64 * h.val + d.val) / 64 = h.val := by omega
    have e2 : (64 * h.val + d.val) % 64 = d.val := by omega
    simp only [e1, e2, Fin.eta, if_true]
  · intro g _ hg
    refine Finset.sum_eq_zero fun d _ => ?_
    rw [qB_apply, kB_apply, X0_apply, if_neg, zero_mul]
    intro h'
    apply hg
    rw [h']
    apply Fin.ext
    show g.val = (64 * g.val + d.val) / 64
    omega
  · intro h'; exact absurd (Finset.mem_univ _) h'

/-- The greatest of a head's scores on device `c`. -/
def top (c : Dev nD) (b h : Fin 8) : EReal := Finset.univ.fold max ⊥ fun k => score m c b h k

/-- The kernel's maximum is that one, -/
theorem max_eq (c : Dev nD) (b h : Fin 8) : k0_pay3 (qB (X0 m c) b) (kB (X1 m c) b) (ix2 h 0) = top m c b h := by
  rw [max_apply]
  exact congrArg (fun f => Finset.univ.fold max ⊥ f) (funext fun k => scoreAt_eq m c b h k)

/-- and its exponentials are taken about it. -/
theorem weight_eq (c : Dev nD) (b h : Fin 8) (k : Fin 512) :
    k0_pay4 (qB (X0 m c) b) (kB (X1 m c) b) (ix2 h k) = Ideal.exp (score m c b h k - top m c b h) := by
  rw [weight_apply, scoreAt_eq, max_eq]

/-- Lane 64 of packed row `8b + h` is the maximum, -/
theorem pack_max (c : Dev nD) (r : Fin 64) : packOf m c (ix2 r 64) = top m c (rowB r) (rowH r) := by
  rw [← max_eq, ← m_apply]
  simp only [packOf, pack, ix2_eq_valueIdx]
  rfl

/-- lane 65 the sum of exponentials, -/
theorem pack_sum (c : Dev nD) (r : Fin 64) :
    packOf m c (ix2 r 65) = ∑ k, Ideal.exp (score m c (rowB r) (rowH r) k - top m c (rowB r) (rowH r)) := by
  simp only [← weight_eq]
  rw [← l_apply]
  simp only [packOf, pack, ix2_eq_valueIdx]
  rfl

/-- lanes 0 to 63 the weighted sum of the values. -/
theorem pack_out (c : Dev nD) (r d : Fin 64) :
    packOf m c (ix2 r ⟨d.val, by omega⟩)
      = ∑ k, Ideal.exp (score m c (rowB r) (rowH r) k - top m c (rowB r) (rowH r)) * val m c (ix4 (rowB r) k (rowH r) d) := by
  have e : packOf m c (ix2 r ⟨d.val, by omega⟩)
      = oOf (qB (X0 m c) (rowB r)) (kB (X1 m c) (rowB r)) (kB (X2 m c) (rowB r)) (ix2 (rowH r) d) := by
    simp only [packOf, pack, ix2_eq_valueIdx]
    exact dif_pos d.isLt
  rw [e]
  unfold oOf
  rw [own_apply, of_apply]
  refine Finset.sum_congr rfl fun k _ => ?_
  rw [weight_eq]
  congr 1
  rw [kB_apply, X2_apply]
  have e1 : (64 * (rowH r).val + d.val) / 64 = (rowH r).val := by omega
  have e2 : (64 * (rowH r).val + d.val) % 64 = d.val := by omega
  simp only [e1, e2, Fin.eta]

end Cert.KernelIdeal.Decode

end
-- ==== Proof.Finite.lean ====
/-
# The precondition, read back: every query and every key is a real
-/
module

public import proofs.«01_k».proof.Defs
public import proofs.«01_k».proof.Proof.Inputs
public import proofs.«01_k».proof.Proof.Gen.KernelIdeal
public import proofs.«01_k».proof.Proof.Gen.Pre_finite_scores_KernelIdeal
public import Idealize.ShloMosaic.Lib.ReduceAll

@[expose] public section

set_option maxRecDepth 16384

noncomputable section

namespace Cert.KernelIdeal.Decode

open Idealize.ShloMosaic Idealize.ShloMosaic.TcCoe

/-- The word of plus infinity. -/
theorem ofBits_inf : Ideal.ofBits .bf16 0x7F80#16 = ⊤ := by
  simp [Ideal.ofBits, Ideal.ieee]

/-- A number whose absolute value is below plus infinity is a real. -/
theorem real_of_abs {x : EReal} (h : BitVec.ofBool (decide (max x (-x) < ⊤)) = 1#1) : ∃ r : ℝ, x = r := by
  have h' : max x (-x) < ⊤ := by
    by_contra hn
    rw [decide_eq_false hn] at h
    exact absurd h (by decide)
  induction x using EReal.rec with
  | bot => simp at h'
  | coe r => exact ⟨r, rfl⟩
  | top => simp at h'

/-- Under the precondition every entry of every device's queries and keys is a real. -/
theorem real_of_pre {m : (ℓ : Loc Cert.KernelIdeal.nD Cert.KernelIdeal.τ Cert.KernelIdeal.sig) → Buf (Elt Ideal) ℓ}
    (h : Cert.Pre_KernelIdeal_finite_scores_KernelIdeal m) (c : Dev Cert.KernelIdeal.nD) :
    (∀ i, ∃ r : ℝ, qry m c i = r) ∧ ∀ i, ∃ r : ℝ, key m c i = r := by
  have e := congrFun (h c) (fun a => a.elim0)
  dsimp only [Cert.Pre_finite_scores_KernelIdeal.fn, andi] at e
  obtain ⟨e0, e1⟩ := IntOp.andi_eq_one.1 e
  constructor
  · intro i
    have := Host.reduce_andi_all _ _ _ _ _ e0 i
    pointwise [ofBits_inf] at this
    exact real_of_abs this
  · intro i
    have := Host.reduce_andi_all _ _ _ _ _ e1 i
    pointwise [ofBits_inf] at this
    exact real_of_abs this

end Cert.KernelIdeal.Decode

end
-- ==== Proof.Combine.lean ====
/-
# The combination of four packed blocks at an element, over the extended reals
-/
module

public import proofs.«01_k».proof.Proof.Local

@[expose] public section

set_option maxRecDepth 16384

noncomputable section

namespace Cert.KernelIdeal.Decode

open Cert.KernelIdeal Cert.KernelIdeal.Gen
open Idealize.ShloMosaic Idealize.ShloMosaic.TcCoe

/-- Four numbers scaled each from its own maximum to the greatest of the four, and summed. -/
def merged (m0 m1 m2 m3 x0 x1 x2 x3 : EReal) : EReal :=
  Ideal.exp (m0 - max (max (max m0 m1) m2) m3) * x0 + Ideal.exp (m1 - max (max (max m0 m1) m2) m3) * x1
    + Ideal.exp (m2 - max (max (max m0 m1) m2) m3) * x2 + Ideal.exp (m3 - max (max (max m0 m1) m2) m3) * x3

/-- The combination at row `r` and lane `d`: the merged weighted sums over the merged sums of exponentials. -/
theorem outOf_apply (g h0 h1 h2 : S64x128.Idx → Elt Ideal .f32) (r d : Fin 64) :
    outOf g h0 h1 h2 (ix2 r d) = Ideal.div
      (merged (g (ix2 r 64)) (h0 (ix2 r 64)) (h1 (ix2 r 64)) (h2 (ix2 r 64))
        (g (ix2 r ⟨d.val, by omega⟩)) (h0 (ix2 r ⟨d.val, by omega⟩)) (h1 (ix2 r ⟨d.val, by omega⟩)) (h2 (ix2 r ⟨d.val, by omega⟩)))
      (merged (g (ix2 r 64)) (h0 (ix2 r 64)) (h1 (ix2 r 64)) (h2 (ix2 r 64))
        (g (ix2 r 65)) (h0 (ix2 r 65)) (h1 (ix2 r 65)) (h2 (ix2 r 65))) := by
  simp only [merged, ix2_eq_valueIdx]
  pointwise [outOf, k0_pay1, k0_pay70, k0_pay71, k0_pay72, k0_pay73, k0_pay74, k0_pay75, k0_pay76, k0_pay77, k0_pay78, k0_pay79, k0_pay80, k0_pay81, lane, lane', wide, wide']

end Cert.KernelIdeal.Decode

end
-- ==== Proof.Merge.lean ====
/-
# Merging pieces of a softmax

Over the extended reals: a weighted sum of exponentials taken about one reference point, and rescaled to another, is
that sum about the other. From it, the quotient of the rescaled sums is the sum of the values weighted by the softmax.
The scores are reals; the values are any extended reals. No reference point need be a maximum.
-/
module

public import Idealize.ShloMosaic.PureOps.Ideal
public import Mathlib.Data.EReal.Inv

@[expose] public section

noncomputable section

namespace Cert.Merge

open Idealize.ShloMosaic

variable {κ ι : Type*} [Fintype κ] [Fintype ι]

/-- The exponential of a difference of reals. -/
theorem exp_sub (a b : ℝ) : Ideal.exp ((a : EReal) - (b : EReal)) = (Real.exp (a - b) : EReal) := by
  rw [← EReal.coe_sub, Ideal.exp_coe]

/-- A nonnegative real multiplies a finite sum of extended reals term by term. -/
theorem mul_sum (r : ℝ) (hr : 0 ≤ r) (t : Finset κ) (f : κ → EReal) : (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (EReal.coe_nonneg.2 hr) (EReal.coe_ne_top r), ih]

/-- A weighted sum of exponentials about `m`, rescaled to `g`. -/
theorem rescale (s : κ → ℝ) (m g : ℝ) (v : κ → EReal) :
    Ideal.exp ((m : EReal) - (g : EReal)) * ∑ k, Ideal.exp ((s k : EReal) - (m : EReal)) * v k
      = ∑ k, Ideal.exp ((s k : EReal) - (g : EReal)) * v k := by
  simp only [exp_sub]
  rw [mul_sum _ (Real.exp_nonneg _)]
  refine Finset.sum_congr rfl fun k _ => ?_
  rw [← mul_assoc, ← EReal.coe_mul, ← Real.exp_add]
  congr 3
  ring

/-- The same of the exponentials alone. -/
theorem rescale_one (s : κ → ℝ) (m g : ℝ) :
    Ideal.exp ((m : EReal) - (g : EReal)) * ∑ k, Ideal.exp ((s k : EReal) - (m : EReal))
      = ∑ k, Ideal.exp ((s k : EReal) - (g : EReal)) := by
  simpa only [mul_one] using rescale s m g fun _ => 1

/-- A finite sum of reals, as an extended real. -/
theorem coe_sum (f : κ → ℝ) : ((∑ k, f k : ℝ) : EReal) = ∑ k, (f k : EReal) := by
  classical
  induction (Finset.univ : Finset κ) using Finset.induction_on with
  | empty => simp
  | insert a t ha ih => rw [Finset.sum_insert ha, Finset.sum_insert ha, EReal.coe_add, ih]

/-- The sum of exponentials is a positive real. -/
theorem sum_pos [Nonempty κ] (s : κ → ℝ) (g : ℝ) : 0 < ∑ k, Real.exp (s k - g) :=
  Finset.sum_pos (fun _ _ => Real.exp_pos _) Finset.univ_nonempty

/-- Division by a positive real is multiplication by its inverse. -/
theorem div_coe (x : EReal) {r : ℝ} (hr : 0 < r) : Ideal.div x (r : EReal) = ((r⁻¹ : ℝ) : EReal) * x := by
  unfold Ideal.div
  rw [if_neg (fun h => hr.ne' (EReal.coe_eq_zero.1 h)), mul_comm, EReal.coe_inv]

/-- The quotient of the weighted sum by the sum of the weights, taken about `g`, is the sum of the values weighted by
    the softmax, taken about any `M`. -/
theorem softmax [Nonempty κ] (s : κ → ℝ) (g M : ℝ) (v : κ → EReal) :
    Ideal.div (∑ k, Ideal.exp ((s k : EReal) - (g : EReal)) * v k) (∑ k, Ideal.exp ((s k : EReal) - (g : EReal)))
      = ∑ k, Ideal.div (Ideal.exp ((s k : EReal) - (M : EReal))) (∑ j, Ideal.exp ((s j : EReal) - (M : EReal))) * v k := by
  simp only [exp_sub, ← coe_sum]
  rw [div_coe _ (sum_pos s g), mul_sum _ (inv_nonneg.2 (sum_pos s g).le)]
  refine Finset.sum_congr rfl fun k _ => ?_
  rw [div_coe _ (sum_pos s M), ← mul_assoc, ← EReal.coe_mul, ← EReal.coe_mul]
  congr 2
  have e : ∀ j, Real.exp (s j - M) = Real.exp (s j - g) * Real.exp (g - M) := fun j => by rw [← Real.exp_add]; congr 1; ring
  simp only [e, ← Finset.sum_mul]
  have h1 := (sum_pos s g).ne'
  have h2 := (Real.exp_pos (g - M)).ne'
  field_simp

/-- The maximum of nonempty finitely many reals, folded from below all of them, is a real. -/
theorem fold_max [Nonempty κ] (s : κ → ℝ) : ∃ r : ℝ, (Finset.univ : Finset κ).fold max ⊥ (fun k => (s k : EReal)) = r := by
  obtain ⟨k⟩ := ‹Nonempty κ›
  have h1 : (Finset.univ : Finset κ).fold max ⊥ (fun k => (s k : EReal)) < ⊤ :=
    Finset.fold_max_lt _ |>.2 ⟨bot_lt_top, fun x _ => EReal.coe_lt_top _⟩
  have h2 : ⊥ < (Finset.univ : Finset κ).fold max ⊥ (fun k => (s k : EReal)) :=
    Finset.lt_fold_max _ |>.2 (Or.inr ⟨k, Finset.mem_univ _, EReal.bot_lt_coe _⟩)
  exact ⟨_, (EReal.coe_toReal h1.ne h2.ne').symm⟩

end Cert.Merge

end
-- ==== Proof.Reference.lean ====
/-
# The reference at an index, over the extended reals
-/
module

public import proofs.«01_k».proof.Proof.Gen.ReferenceIdeal.Run
public import proofs.«01_k».proof.Proof.Local
public import Idealize.ShloMosaic.Lib.Pointwise

@[expose] public section

set_option maxRecDepth 16384

noncomputable section

namespace Cert.ReferenceIdeal.Decode

open Cert.ReferenceIdeal Cert.ReferenceIdeal.Gen
open Idealize.ShloMosaic Idealize.ShloMosaic.TcCoe

/-- The scaled scores. -/
def scores (Q : FVec Ideal S8x1x8x64 .bf16) (K : FVec Ideal S8x2048x8x64 .bf16) : FVec Ideal S8x8x1x2048 .f32 :=
  mulf
    (Host.dotGeneral dot_S8x1x8x64_S8x2048x8x64_S8x8x1x2048_3_3_1_1_02_02 none
      (extf FTy.f32 Q bitsLt_bf16_f32) (extf FTy.f32 K bitsLt_bf16_f32))
    (broadcastInDim S8x8x1x2048 ![] bcast_S_S8x8x1x2048 (constant S_ FTy.f32 0x3E000000#32))

/-- Their maximum over the keys. -/
def tops (S : FVec Ideal S8x8x1x2048 .f32) : FVec Ideal S8x8x1 .f32 :=
  Host.reduce FloatOps.maximumf S (constant S_ FTy.f32 0xFF800000#32) reducesTo_S8x8x1x2048_S8x8x1_d3 h_S_

/-- The exponentials of the scores less their maximum. -/
def exps (S : FVec Ideal S8x8x1x2048 .f32) : FVec Ideal S8x8x1x2048 .f32 :=
  Host.exp (subf S (broadcastInDim S8x8x1x2048 ![0, 1, 2, 3] bcast_S8x8x1x1_S8x8x1x2048_0_1_2_3
    (broadcastInDim S8x8x1x1 ![0, 1, 2] bcast_S8x8x1_S8x8x1x1_0_1_2 (tops S))))

/-- The exponentials over their sum. -/
def weights (S : FVec Ideal S8x8x1x2048 .f32) : FVec Ideal S8x8x1x2048 .f32 :=
  Host.divf (exps S) (broadcastInDim S8x8x1x2048 ![0, 1, 2, 3] bcast_S8x8x1x1_S8x8x1x2048_0_1_2_3
    (broadcastInDim S8x8x1x1 ![0, 1, 2] bcast_S8x8x1_S8x8x1x1_0_1_2
      (Host.reduceAdd (exps S) (constant S_ FTy.f32 0#32) reducesTo_S8x8x1x2048_S8x8x1_d3 h_S_)))

/-- The values weighted and summed. -/
def result (Q : FVec Ideal S8x1x8x64 .bf16) (K W : FVec Ideal S8x2048x8x64 .bf16) : FVec Ideal S8x1x8x64 .f32 :=
  transpose S8x1x8x64 [0, 3, 1, 2]
    (Host.dotGeneral dot_S8x2048x8x64_S8x8x1x2048_S8x8x64x1_1_3_3_2_02_01 none
      (extf FTy.f32 W bitsLt_bf16_f32) (weights (scores Q K))) transposes_S8x8x64x1_S8x1x8x64_0_3_1_2

/-- The score of head `h` of batch row `b` against key `k`. -/
theorem scores_apply (Q : FVec Ideal S8x1x8x64 .bf16) (K : FVec Ideal S8x2048x8x64 .bf16) (b h : Fin 8) (k : Fin 2048) :
    scores Q K (ix4 b h 0 k) = (∑ d : Fin 64, Q (ix4 b 0 h d) * K (ix4 b k h d)) * Ideal.ofBits .f32 0x3E000000#32 := by
  pointwise [scores]

/-- The maximum at a head. -/
theorem tops_apply (S : FVec Ideal S8x8x1x2048 .f32) (b h : Fin 8) :
    tops S (ix3 b h 0) = Finset.univ.fold max ⊥ fun k => S (ix4 b h 0 k) := by
  pointwise [tops, Cert.KernelIdeal.Decode.ofBits_neg_inf]

/-- The exponential at a key. -/
theorem exps_apply (S : FVec Ideal S8x8x1x2048 .f32) (b h : Fin 8) (k : Fin 2048) :
    exps S (ix4 b h 0 k) = Ideal.exp (S (ix4 b h 0 k) - tops S (ix3 b h 0)) := by
  pointwise [exps]

/-- The weight at a key. -/
theorem weights_apply (S : FVec Ideal S8x8x1x2048 .f32) (b h : Fin 8) (k : Fin 2048) :
    weights S (ix4 b h 0 k) = Ideal.div (exps S (ix4 b h 0 k)) (∑ j, exps S (ix4 b h 0 j)) := by
  pointwise [weights]

/-- The result at a lane: the values weighted and summed. -/
theorem result_apply (Q : FVec Ideal S8x1x8x64 .bf16) (K W : FVec Ideal S8x2048x8x64 .bf16) (b h : Fin 8) (d : Fin 64) :
    result Q K W (ix4 b 0 h d) = ∑ k, W (ix4 b k h d) * weights (scores Q K) (ix4 b h 0 k) := by
  pointwise [result]

/-- Every run of the reference ends with the result at `result` of the arguments, and the arguments unchanged. -/
theorem run_values (m : (ℓ : Loc nD τ sig) → Buf (Elt Ideal) ℓ) (ρ : Dev nD → PrngReg) :
    (θ_run defs (onTc main) { mem := m, sem := fun _ => 0, prng := ρ }) fun r => ∀ c : Dev nD,
      r.2.mem (c.tc.loc main_v16) = result (m (c.tc.loc main_arg0)) (m (c.tc.loc main_arg1)) (m (c.tc.loc main_arg2))
        ∧ r.2.mem (c.tc.loc main_arg0) = m (c.tc.loc main_arg0) ∧ r.2.mem (c.tc.loc main_arg1) = m (c.tc.loc main_arg1)
        ∧ r.2.mem (c.tc.loc main_arg2) = m (c.tc.loc main_arg2) :=
  Value.run m ρ

end Cert.ReferenceIdeal.Decode

end
-- ==== Proof.Value.lean ====
/-
# The kernel's value is the reference's

Each device's packed block is a softmax over its own keys, taken about its own maximum; the combination rescales the four
to the greatest maximum and adds them, which is the softmax over all the keys.
-/
module

public import proofs.«01_k».proof.Proof.Finite
public import proofs.«01_k».proof.Proof.Combine
public import proofs.«01_k».proof.Proof.Merge
public import proofs.«01_k».proof.Proof.Reference
public import Idealize.ShloMosaic.Lib.LayoutAt

@[expose] public section

set_option maxRecDepth 16384

noncomputable section

namespace Cert.KernelIdeal.Decode

open Cert.KernelIdeal Cert.KernelIdeal.Gen
open Idealize.ShloMosaic Idealize.ShloMosaic.TcCoe

/-! ## Real scores -/

/-- A score of real queries against real keys is a real. -/
theorem score_real {m : (ℓ : Loc nD τ sig) → Buf (Elt Ideal) ℓ} {c : Dev nD} (hq : ∀ i, ∃ r : ℝ, qry m c i = r)
    (hk : ∀ i, ∃ r : ℝ, key m c i = r) (b h : Fin 8) (k : Fin 512) : ∃ r : ℝ, score m c b h k = r := by
  choose q hq using hq
  choose y hk using hk
  obtain ⟨t, ht⟩ := scale_real
  refine ⟨(∑ d : Fin 64, q (ix4 b 0 h d) * y (ix4 b k h d)) * t, ?_⟩
  unfold score
  rw [ht, EReal.coe_mul, Cert.Merge.coe_sum]
  simp only [hq, hk, EReal.coe_mul]

/-! ## The four devices added -/

/-- The device itself and the three it hears from are all four. -/
theorem sum_devices (f : Fin 4 → EReal) (c : Fin 4) :
    f c + f (fr c 0) + f (fr c 1) + f (fr c 2) = ∑ d, f d := by
  rw [Fin.sum_univ_four]
  fin_cases c
  · show f 0 + f 1 + f 2 + f 3 = _; rfl
  · show f 1 + f 2 + f 3 + f 0 = _; ac_rfl
  · show f 2 + f 3 + f 0 + f 1 = _; ac_rfl
  · show f 3 + f 0 + f 1 + f 2 = _; ac_rfl

/-- The greatest of the four tops, in the order device `c` takes them. -/
def peak (t : Fin 4 → ℝ) (c : Fin 4) : ℝ := max (max (max (t c) (t (fr c 0))) (t (fr c 1))) (t (fr c 2))

/-- Weighted sums each about its own device's top merge into the one about the peak, over all the keys. -/
theorem merged_sum (s : Fin 4 → Fin 512 → ℝ) (t : Fin 4 → ℝ) (v : Fin 4 → Fin 512 → EReal) (c : Fin 4)
    (x : Fin 4 → EReal) (hx : ∀ d, x d = ∑ k, Ideal.exp ((s d k : EReal) - (t d : EReal)) * v d k) :
    merged (t c) (t (fr c 0)) (t (fr c 1)) (t (fr c 2)) (x c) (x (fr c 0)) (x (fr c 1)) (x (fr c 2))
      = ∑ d, ∑ k, Ideal.exp ((s d k : EReal) - (peak t c : EReal)) * v d k := by
  have e : max (max (max (t c : EReal) (t (fr c 0))) (t (fr c 1))) (t (fr c 2)) = (peak t c : EReal) := by
    have h : ∀ a b : ℝ, max (a : EReal) (b : EReal) = ((max a b : ℝ) : EReal) := fun a b =>
      (EReal.coe_strictMono.monotone.map_max).symm
    rw [h, h, h, peak]
  unfold merged
  rw [e, ← sum_devices _ c, hx, hx, hx, hx, Cert.Merge.rescale, Cert.Merge.rescale, Cert.Merge.rescale, Cert.Merge.rescale]

/-! ## The keys of the four devices are all the keys -/

/-- Where key `k` of device `d` stands among all the keys. -/
def pos (d : Fin 4) (k : Fin 512) : Fin 2048 := ⟨d.val * 512 + k.val, by omega⟩

/-- A sum over all the keys is a sum over the devices and their keys. -/
theorem sum_keys (f : Fin 2048 → EReal) : ∑ j, f j = ∑ d, ∑ k, f (pos d k) := by
  rw [← Fintype.sum_prod_type', ← (finProdFinEquiv (m := 4) (n := 512)).sum_comp f]
  refine Finset.sum_congr rfl fun x _ => congrArg f (Fin.ext ?_)
  show x.2.val + 512 * x.1.val = x.1.val * 512 + x.2.val
  omega

/-- Every key is some device's. -/
theorem exists_pos (j : Fin 2048) : ∃ d k, j = pos d k :=
  ⟨⟨j.val / 512, by omega⟩, ⟨j.val % 512, by omega⟩, Fin.ext (by show j.val = j.val / 512 * 512 + j.val % 512; omega)⟩

/-- Device `d`'s block of the keys or the values, at an index. -/
theorem block_apply (d : Fin 4) (X : (⟨4, ![8, 2048, 8, 64]⟩ : Shape).Idx → EReal) (b : Fin 8) (k : Fin 512) (h : Fin 8) (e : Fin 64) :
    Layout.block ⟨4, ![8, 512, 8, 64]⟩ ⟨4, ![8, 2048, 8, 64]⟩ 1 4 d X (by decide) (ix4 b k h e) = X (ix4 b (pos d k) h e) := by
  rw [Layout.block_apply]
  congr 1
  have hp : (pos d k).val = d.val * 512 + k.val := rfl
  shard_ext

/-! ## The value -/

section

variable {m : (ℓ : Loc nD τ sig) → Buf (Elt Ideal) ℓ}
variable {Q : S8x1x8x64.Idx → EReal} {K W : (⟨4, ![8, 2048, 8, 64]⟩ : Shape).Idx → EReal}

/-- A device's score is the reference's at that key. -/
theorem score_eq (hQ : ∀ c, qry m c = Q) (hK : ∀ c b k h d, key m c (ix4 b k h d) = K (ix4 b (pos c k) h d))
    (c : Dev nD) (b h : Fin 8) (k : Fin 512) :
    Cert.ReferenceIdeal.Decode.scores Q K (ix4 b h 0 (pos c k)) = score m c b h k := by
  rw [Cert.ReferenceIdeal.Decode.scores_apply]
  unfold score
  simp only [hQ, hK]

/-- What device `c` combines, at row `r` and lane `d`, is the reference's result there. -/
theorem out_eq (hq : ∀ c i, ∃ r : ℝ, qry m c i = r) (hk : ∀ c i, ∃ r : ℝ, key m c i = r)
    (hQ : ∀ c, qry m c = Q) (hK : ∀ c b k h d, key m c (ix4 b k h d) = K (ix4 b (pos c k) h d))
    (hW : ∀ c b k h d, val m c (ix4 b k h d) = W (ix4 b (pos c k) h d)) (c : Dev nD) (r d : Fin 64) :
    outAt m c (ix2 r d) = Cert.ReferenceIdeal.Decode.result Q K W (ix4 (rowB r) 0 (rowH r) d) := by
  have hs := fun c k => score_real (hq c) (hk c) (rowB r) (rowH r) k
  choose s hs using hs
  have ht := fun c => Cert.Merge.fold_max (s c)
  choose t ht using ht
  have ht' : ∀ c, top m c (rowB r) (rowH r) = t c := fun c => by
    rw [← ht]; exact congrArg (fun f => Finset.univ.fold max ⊥ f) (funext fun k => hs c k)
  -- the reference's scores are those reals
  have hS : ∀ j, ∃ x : ℝ, Cert.ReferenceIdeal.Decode.scores Q K (ix4 (rowB r) (rowH r) 0 j) = x := fun j => by
    obtain ⟨e, k, rfl⟩ := exists_pos j
    exact ⟨s e k, (score_eq hQ hK e _ _ k).trans (hs e k)⟩
  choose S hS using hS
  have hSs : ∀ e k, (S (pos e k) : EReal) = s e k := fun e k => by rw [← hS, score_eq hQ hK, hs]
  obtain ⟨T, hT⟩ := Cert.Merge.fold_max S
  have hT' : Cert.ReferenceIdeal.Decode.tops (Cert.ReferenceIdeal.Decode.scores Q K) (ix3 (rowB r) (rowH r) 0) = T := by
    rw [← hT, Cert.ReferenceIdeal.Decode.tops_apply]
    exact congrArg (fun f => Finset.univ.fold max ⊥ f) (funext fun k => hS k)
  -- the reference: the softmax about `T`, so about the peak
  rw [Cert.ReferenceIdeal.Decode.result_apply]
  simp only [Cert.ReferenceIdeal.Decode.weights_apply, Cert.ReferenceIdeal.Decode.exps_apply, hT', hS]
  have hR := Cert.Merge.softmax S (peak t c) T fun j => W (ix4 (rowB r) j (rowH r) d)
  refine Eq.trans ?_ (hR.trans (Finset.sum_congr rfl fun j _ => mul_comm _ _))
  -- the kernel: the merged sums
  rw [sum_keys, sum_keys]
  simp only [hSs]
  unfold outAt
  rw [outOf_apply]
  simp only [pack_max, ht']
  have A := merged_sum s t (fun e k => W (ix4 (rowB r) (pos e k) (rowH r) d)) c
    (fun e => packOf m e (ix2 r ⟨d.val, by omega⟩)) fun e => by
      rw [pack_out]
      simp only [ht', hs, hW]
  have B := merged_sum s t (fun _ _ => 1) c (fun e => packOf m e (ix2 r 65)) fun e => by
      rw [pack_sum]
      simp only [ht', hs, mul_one]
  simp only [mul_one] at B
  rw [← A, ← B]

end

end Cert.KernelIdeal.Decode

end
-- ==== Proof.Algebraic.lean ====
/-
# The value claim: over the extended reals, from real queries and keys, every device ends with the reference's result
-/
module

public import proofs.«01_k».proof.Proof.Run
public import proofs.«01_k».proof.Proof.Value
public import proofs.«01_k».proof.Proof.Gen.ReferenceIdeal

@[expose] public section

set_option maxRecDepth 16384

noncomputable section

namespace Cert.Proof

open Idealize.ShloMosaic Idealize.ShloMosaic.TcCoe
open Idealize.SL.Sem
open Cert.KernelIdeal.Decode (qry key val rowB rowH)

/-- The 64 rows of the combined block, laid out by batch row and head, are the reference's result. -/
theorem rows_eq {X : Cert.KernelIdeal.S64x64.Idx → EReal} {Y : Cert.KernelIdeal.S8x1x8x64.Idx → EReal}
    (h : ∀ r d : Fin 64, X (ix2 r d) = Y (ix4 (rowB r) 0 (rowH r) d)) :
    shapeCast Cert.KernelIdeal.S8x1x8x64 X Cert.KernelIdeal.Gen.shapeCasts_S64x64_S8x1x8x64 = Y := by
  funext i
  obtain ⟨b, z, g, d, rfl⟩ : ∃ (b : Fin 8) (z : Fin 1) (g : Fin 8) (d : Fin 64), i = ix4 b z g d := ⟨_, _, _, _, eq_ix4 i⟩
  have e : shapeCast Cert.KernelIdeal.S8x1x8x64 X Cert.KernelIdeal.Gen.shapeCasts_S64x64_S8x1x8x64 (ix4 b z g d)
      = X (ix2 ⟨b.val * 8 + g.val, by omega⟩ d) := by
    pointwise
  have e1 : rowB ⟨b.val * 8 + g.val, by omega⟩ = b := Fin.ext (by show (b.val * 8 + g.val) / 8 = b.val; omega)
  have e2 : rowH ⟨b.val * 8 + g.val, by omega⟩ = g := Fin.ext (by show (b.val * 8 + g.val) % 8 = g.val; omega)
  rw [e, h, e1, e2, Subsingleton.elim z 0]

/-- From real queries and keys, cut over the devices, every device of the kernel ends with the reference's whole result. -/
theorem algebraic : Cert.algebraic_KernelIdeal_ReferenceIdeal_pre_finite_scores_KernelIdeal := by
  intro m g m' g' hpre hin
  have hreal := Cert.KernelIdeal.Decode.real_of_pre hpre
  have hK : ∀ c b k h d, key m c (ix4 b k h d) = m' ((0 : Dev Cert.ReferenceIdeal.nD).tc.loc Cert.ReferenceIdeal.main_arg1)
      (ix4 b (Cert.KernelIdeal.Decode.pos c k) h d) := fun c b k h d =>
    (congrFun (hin c).2.1 _).trans (Cert.KernelIdeal.Decode.block_apply c _ b k h d)
  have hW : ∀ c b k h d, val m c (ix4 b k h d) = m' ((0 : Dev Cert.ReferenceIdeal.nD).tc.loc Cert.ReferenceIdeal.main_arg2)
      (ix4 b (Cert.KernelIdeal.Decode.pos c k) h d) := fun c b k h d =>
    (congrFun (hin c).2.2 _).trans (Cert.KernelIdeal.Decode.block_apply c _ b k h d)
  refine ⟨_, (θ_run Cert.KernelIdeal.defs _ _).mono (fun r hr c => ⟨(hr.1 c).1.trans ?_, (hr.1 c).2⟩)
      (Cert.KernelIdeal.Decode.run_values (F := Ideal) m g),
    (θ_run Cert.ReferenceIdeal.defs _ _).mono (fun r hr => hr 0) (Cert.ReferenceIdeal.Decode.run_values m' g')⟩
  exact rows_eq (Cert.KernelIdeal.Decode.out_eq (fun c => (hreal c).1) (fun c => (hreal c).2) (fun c => (hin c).1) hK hW c)

end Cert.Proof

end
-- ==== Proof.lean ====
/-
# The certificate

Every claim, with the witnesses of the side conditions the printed programs and predicates state.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Adequacy
public import Idealize.ShloMosaic.Init
public import proofs.«01_k».proof.Proof.Frames
public import proofs.«01_k».proof.Proof.Algebraic

@[expose] public section

noncomputable section

namespace Cert.Proof

/-- The printed kernel, its idealization and the reference run to the end, keep their arguments and leave every semaphore
    at zero; from real queries and keys the kernel's result on every device is the reference's. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, frame_kernelIdeal_pre, frame_referenceIdeal, frame_referenceIdeal_pre, trivial, algebraic⟩

end Cert.Proof

end
